-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "milli" .f32 0x3A83126F#32 ((1 / 1000 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x1 : Shape := ⟨2, ![16384, 1]⟩
abbrev S1000000x128 : Shape := ⟨2, ![1000000, 128]⟩
abbrev S100000x128 : Shape := ⟨2, ![100000, 128]⟩
abbrev S100x64 : Shape := ⟨2, ![100, 64]⟩
abbrev S3x32 : Shape := ⟨2, ![3, 32]⟩
abbrev S1000x64 : Shape := ⟨2, ![1000, 64]⟩
abbrev S417x256 : Shape := ⟨2, ![417, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : IVec S16384x1 32) (main_arg3 : IVec S16384x1 32) (main_arg4 : IVec S16384x1 32) (main_v12 : IVec S_ 1) (main_v14 : IVec S16384x1 1) (main_v15 : IVec S16384x1 32) : IVec S_ 1 :=
  let main_v16 : IVec S16384x1 1 := cmpi .slt main_arg2 main_v15
  let main_v17 : IVec S16384x1 1 := andi main_v14 main_v16
  let main_c_7 : IVec S_ 1 := constantI S_ 1 1#1
  let main_v18 : IVec S_ 1 := (fun x v => Host.reduce IntOp.andi x v reducesTo_S16384x1_S_d0_1 h_S_) main_v17 main_c_7
  let main_v19 : IVec S_ 1 := andi main_v12 main_v18
  let main_c_8 : IVec S_ 32 := constantI S_ 32 0#32
  let main_v20 : IVec S16384x1 32 := broadcastInDim S16384x1 ![] bcast_S_S16384x1 main_c_8
  let main_v21 : IVec S16384x1 1 := cmpi .sge main_arg3 main_v20
  let main_c_9 : IVec S_ 32 := constantI S_ 32 100000#32
  let main_v22 : IVec S16384x1 32 := broadcastInDim S16384x1 ![] bcast_S_S16384x1 main_c_9
  let main_v23 : IVec S16384x1 1 := cmpi .slt main_arg3 main_v22
  let main_v24 : IVec S16384x1 1 := andi main_v21 main_v23
  let main_c_10 : IVec S_ 1 := constantI S_ 1 1#1
  let main_v25 : IVec S_ 1 := (fun x v => Host.reduce IntOp.andi x v reducesTo_S16384x1_S_d0_1 h_S_) main_v24 main_c_10
  let main_v26 : IVec S_ 1 := andi main_v19 main_v25
  let main_c_11 : IVec S_ 32 := constantI S_ 32 0#32
  let main_v27 : IVec S16384x1 32 := broadcastInDim S16384x1 ![] bcast_S_S16384x1 main_c_11
  let main_v28 : IVec S16384x1 1 := cmpi .sge main_arg4 main_v27
  let main_c_12 : IVec S_ 32 := constantI S_ 32 1000#32
  let main_v29 : IVec S16384x1 32 := broadcastInDim S16384x1 ![] bcast_S_S16384x1 main_c_12
  let main_v30 : IVec S16384x1 1 := cmpi .slt main_arg4 main_v29
  let main_v31 : IVec S16384x1 1 := andi main_v28 main_v30
  let main_c_13 : IVec S_ 1 := constantI S_ 1 1#1
  let main_v32 : IVec S_ 1 := (fun x v => Host.reduce IntOp.andi x v reducesTo_S16384x1_S_d0_1 h_S_) main_v31 main_c_13
  fn_part2 (F := F) main_v26 main_v32

def fn {F : FTy → Type} [FloatOps F] (main_arg0 : IVec S16384x1 32) (main_arg1 : IVec S16384x1 32) (main_arg2 : IVec S16384x1 32) (main_arg3 : IVec S16384x1 32) (main_arg4 : IVec S16384x1 32) (main_arg5 : FVec F S16384x1 .f32) (main_arg6 : FVec F S1000000x128 .f32) (main_arg7 : FVec F S100000x128 .f32) (main_arg8 : FVec F S100x64 .f32) (main_arg9 : FVec F S3x32 .f32) (main_arg10 : FVec F S1000x64 .f32) (main_arg11 : FVec F S417x256 .f32) (main_arg12 : FVec F S256 .f32) (main_arg13 : FVec F S256x128 .f32) (main_arg14 : FVec F S128 .f32) (main_arg15 : FVec F S128x64 .f32) (main_arg16 : FVec F S64 .f32) (main_arg17 : FVec F S64x1 .f32) (main_arg18 : FVec F S1 .f32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg0 main_v0
  let main_c_0 : IVec S_ 32 := constantI S_ 32 1000000#32
  let main_v2 : IVec S16384x1 32 := broadcastInDim S16384x1 ![] bcast_S_S16384x1 main_c_0
  let main_v3 : IVec S16384x1 1 := cmpi .slt main_arg0 main_v2
  let main_v4 : IVec S16384x1 1 := andi main_v1 main_v3
  let main_c_1 : IVec S_ 1 := constantI S_ 1 1#1
  let main_v5 : IVec S_ 1 := (fun x v => Host.reduce IntOp.andi x v reducesTo_S16384x1_S_d0_1 h_S_) main_v4 main_c_1
  let main_c_2 : IVec S_ 32 := constantI S_ 32 0#32
  let main_v6 : IVec S16384x1 32 := broadcastInDim S16384x1 ![] bcast_S_S16384x1 main_c_2
  let main_v7 : IVec S16384x1 1 := cmpi .sge main_arg1 main_v6
  let main_c_3 : IVec S_ 32 := constantI S_ 32 100#32
  let main_v8 : IVec S16384x1 32 := broadcastInDim S16384x1 ![] bcast_S_S16384x1 main_c_3
  let main_v9 : IVec S16384x1 1 := cmpi .slt main_arg1 main_v8
  let main_v10 : IVec S16384x1 1 := andi main_v7 main_v9
  let main_c_4 : IVec S_ 1 := constantI S_ 1 1#1
  let main_v11 : IVec S_ 1 := (fun x v => Host.reduce IntOp.andi x v reducesTo_S16384x1_S_d0_1 h_S_) main_v10 main_c_4
  let main_v12 : IVec S_ 1 := andi main_v5 main_v11
  let main_c_5 : IVec S_ 32 := constantI S_ 32 0#32
  let main_v13 : IVec S16384x1 32 := broadcastInDim S16384x1 ![] bcast_S_S16384x1 main_c_5
  let main_v14 : IVec S16384x1 1 := cmpi .sge main_arg2 main_v13
  let main_c_6 : IVec S_ 32 := constantI S_ 32 3#32
  let main_v15 : IVec S16384x1 32 := broadcastInDim S16384x1 ![] bcast_S_S16384x1 main_c_6
  fn_part1 (F := F) main_arg2 main_arg3 main_arg4 main_v12 main_v14 main_v15
-- ==== Kernel.lean ====
abbrev S16384x1 : Shape := ⟨2, ![16384, 1]⟩
abbrev S1000000x128 : Shape := ⟨2, ![1000000, 128]⟩
abbrev S100000x128 : Shape := ⟨2, ![100000, 128]⟩
abbrev S100x64 : Shape := ⟨2, ![100, 64]⟩
abbrev S3x32 : Shape := ⟨2, ![3, 32]⟩
abbrev S1000x64 : Shape := ⟨2, ![1000, 64]⟩
abbrev S417x256 : Shape := ⟨2, ![417, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S16384 : Shape := ⟨1, ![16384]⟩
abbrev S16384x128 : Shape := ⟨2, ![16384, 128]⟩
abbrev S512 : Shape := ⟨1, ![512]⟩
abbrev S128x128 : Shape := ⟨2, ![128, 128]⟩
abbrev S_ : Shape := ⟨0, ![]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S8x1x2048 : Shape := ⟨3, ![8, 1, 2048]⟩
abbrev S2048x128 : Shape := ⟨2, ![2048, 128]⟩
abbrev S1x1x2048 : Shape := ⟨3, ![1, 1, 2048]⟩
abbrev S128x256 : Shape := ⟨2, ![128, 256]⟩
abbrev S2048x256 : Shape := ⟨2, ![2048, 256]⟩
abbrev S100x2048 : Shape := ⟨2, ![100, 2048]⟩
abbrev S1x2048 : Shape := ⟨2, ![1, 2048]⟩
abbrev S2048x64 : Shape := ⟨2, ![2048, 64]⟩
abbrev S64x256 : Shape := ⟨2, ![64, 256]⟩
abbrev S3x2048 : Shape := ⟨2, ![3, 2048]⟩
abbrev S2048x32 : Shape := ⟨2, ![2048, 32]⟩
abbrev S32x256 : Shape := ⟨2, ![32, 256]⟩
abbrev S1000x2048 : Shape := ⟨2, ![1000, 2048]⟩

abbrev nBuf : Table → Nat
  | .hbm => 40
  | .local .tc .vmem => 25
  | .local .scVector .vmem => 6
  | _ => 0

abbrev bufTy : (tb : Table) → Fin (nBuf tb) → BufTy
  | .hbm, ⟨0, _⟩ => ⟨S16384x1, .i32⟩
  | .hbm, ⟨1, _⟩ => ⟨S16384x1, .i32⟩
  | .hbm, ⟨2, _⟩ => ⟨S16384x1, .i32⟩
  | .hbm, ⟨3, _⟩ => ⟨S16384x1, .i32⟩
  | .hbm, ⟨4, _⟩ => ⟨S16384x1, .i32⟩
  | .hbm, ⟨5, _⟩ => ⟨S16384x1, .f32⟩
  | .hbm, ⟨6, _⟩ => ⟨S1000000x128, .f32⟩
  | .hbm, ⟨7, _⟩ => ⟨S100000x128, .f32⟩
  | .hbm, ⟨8, _⟩ => ⟨S100x64, .f32⟩
  | .hbm, ⟨9, _⟩ => ⟨S3x32, .f32⟩
  | .hbm, ⟨10, _⟩ => ⟨S1000x64, .f32⟩
  | .hbm, ⟨11, _⟩ => ⟨S417x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S16384, .i32⟩
  | .hbm, ⟨20, _⟩ => ⟨S16384, .i32⟩
  | .hbm, ⟨21, _⟩ => ⟨S16384x128, .f32⟩
  | .hbm, ⟨22, _⟩ => ⟨S16384x128, .f32⟩
  | .hbm, ⟨23, _⟩ => ⟨S1x256, .f32⟩
  | .hbm, ⟨24, _⟩ => ⟨S1x128, .f32⟩
  | .hbm, ⟨25, _⟩ => ⟨S1x64, .f32⟩
  | .hbm, ⟨26, _⟩ => ⟨S1x1, .f32⟩
  | .hbm, ⟨27, _⟩ => ⟨S100x64, .bf16⟩
  | .hbm, ⟨28, _⟩ => ⟨S3x32, .bf16⟩
  | .hbm, ⟨29, _⟩ => ⟨S1000x64, .bf16⟩
  | .hbm, ⟨30, _⟩ => ⟨S417x256, .bf16⟩
  | .hbm, ⟨31, _⟩ => ⟨S256x128, .bf16⟩
  | .hbm, ⟨32, _⟩ => ⟨S128x64, .bf16⟩
  | .hbm, ⟨33, _⟩ => ⟨S64x1, .bf16⟩
  | .hbm, ⟨34, _⟩ => ⟨S8x1x2048, .i32⟩
  | .hbm, ⟨35, _⟩ => ⟨S8x1x2048, .i32⟩
  | .hbm, ⟨36, _⟩ => ⟨S8x1x2048, .i32⟩
  | .hbm, ⟨37, _⟩ => ⟨S8x1x2048, .f32⟩
  | .hbm, ⟨38, _⟩ => ⟨S8x1x2048, .f32⟩
  | .hbm, ⟨39, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S1x1x2048, .i32⟩
  | .local .tc .vmem, ⟨5, _⟩ => ⟨S1x1x2048, .i32⟩
  | .local .tc .vmem, ⟨6, _⟩ => ⟨S1x1x2048, .i32⟩
  | .local .tc .vmem, ⟨7, _⟩ => ⟨S1x1x2048, .i32⟩
  | .local .tc .vmem, ⟨8, _⟩ => ⟨S1x1x2048, .i32⟩
  | .local .tc .vmem, ⟨9, _⟩ => ⟨S1x1x2048, .i32⟩
  | .local .tc .vmem, ⟨10, _⟩ => ⟨S1x1x2048, .f32⟩
  | .local .tc .vmem, ⟨11, _⟩ => ⟨S1x1x2048, .f32⟩
  | .local .tc .vmem, ⟨12, _⟩ => ⟨S100x64, .bf16⟩
  | .local .tc .vmem, ⟨13, _⟩ => ⟨S3x32, .bf16⟩
  | .local .tc .vmem, ⟨14, _⟩ => ⟨S1000x64, .bf16⟩
  | .local .tc .vmem, ⟨15, _⟩ => ⟨S417x256, .bf16⟩
  | .local .tc .vmem, ⟨16, _⟩ => ⟨S1x256, .f32⟩
  | .local .tc .vmem, ⟨17, _⟩ => ⟨S256x128, .bf16⟩
  | .local .tc .vmem, ⟨18, _⟩ => ⟨S1x128, .f32⟩
  | .local .tc .vmem, ⟨19, _⟩ => ⟨S128x64, .bf16⟩
  | .local .tc .vmem, ⟨20, _⟩ => ⟨S1x64, .f32⟩
  | .local .tc .vmem, ⟨21, _⟩ => ⟨S64x1, .bf16⟩
  | .local .tc .vmem, ⟨22, _⟩ => ⟨S1x1, .f32⟩
  | .local .tc .vmem, ⟨23, _⟩ => ⟨S1x1x2048, .f32⟩
  | .local .tc .vmem, ⟨24, _⟩ => ⟨S1x1x2048, .f32⟩
  | .local .scVector .vmem, ⟨0, _⟩ => ⟨S512, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v0_scv : Ref sig .scVector := ⟨.hbm, 19, rfl⟩
abbrev main_v1_scv : Ref sig .scVector := ⟨.hbm, 20, rfl⟩
abbrev main_arg6_scv : Ref sig .scVector := ⟨.hbm, 6, rfl⟩
abbrev main_arg7_scv : Ref sig .scVector := ⟨.hbm, 7, rfl⟩
abbrev main_v2_0_scv : Ref sig .scVector := ⟨.hbm, 21, rfl⟩
abbrev main_v2_1_scv : Ref sig .scVector := ⟨.hbm, 22, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg15_0 : Ref sig .tc := ⟨.vmem, 21, rfl⟩
abbrev cc1_stg16_0 : Ref sig .tc := ⟨.vmem, 22, rfl⟩
abbrev cc1_stg17_0 : Ref sig .tc := ⟨.vmem, 23, rfl⟩
abbrev cc1_stg17_1 : Ref sig .tc := ⟨.vmem, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem17_0 : DmaSem sig := 33
abbrev cc1_sem17_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v13 : BitVec 32 := Scalar.addi v2 c0_i32_11
  let c0_i32_12 : BitVec 32 := 0#32
  ![v13.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S100x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x32 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1000x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S417x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x64 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x1 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1x1x2048 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "milli" => some ((1 / 1000 : ℝ) : EReal)
  | _ => none
-- ==== ReferenceIdeal.lean ====
abbrev S16384x1 : Shape := ⟨2, ![16384, 1]⟩
abbrev S1000000x128 : Shape := ⟨2, ![1000000, 128]⟩
abbrev S100000x128 : Shape := ⟨2, ![100000, 128]⟩
abbrev S100x64 : Shape := ⟨2, ![100, 64]⟩
abbrev S3x32 : Shape := ⟨2, ![3, 32]⟩
abbrev S1000x64 : Shape := ⟨2, ![1000, 64]⟩
abbrev S417x256 : Shape := ⟨2, ![417, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S16384 : Shape := ⟨1, ![16384]⟩
abbrev S_ : Shape := ⟨0, ![]⟩
abbrev S1x1 : Shape := ⟨2, ![1, 1]⟩
abbrev S16384x128 : Shape := ⟨2, ![16384, 128]⟩
abbrev S16384x64 : Shape := ⟨2, ![16384, 64]⟩
abbrev S16384x32 : Shape := ⟨2, ![16384, 32]⟩
abbrev S16384x417 : Shape := ⟨2, ![16384, 417]⟩
abbrev S16384x256 : Shape := ⟨2, ![16384, 256]⟩
abbrev S1x256 : Shape := ⟨2, ![1, 256]⟩
abbrev S1x128 : Shape := ⟨2, ![1, 128]⟩
abbrev S1x64 : Shape := ⟨2, ![1, 64]⟩

abbrev nBuf : Space → Nat
  | .hbm => 169
  | .vmem => 0
  | .smem => 0
  | _ => 0

abbrev hbmTy0_0 (i : Nat) : BufTy := match i % 128 with
  | 0 => ⟨S16384x1, .i32⟩
  | 1 => ⟨S16384x1, .i32⟩
  | 2 => ⟨S16384x1, .i32⟩
  | 3 => ⟨S16384x1, .i32⟩
  | 4 => ⟨S16384x1, .i32⟩
  | 5 => ⟨S16384x1, .f32⟩
  | 6 => ⟨S1000000x128, .f32⟩
  | 7 => ⟨S100000x128, .f32⟩
  | 8 => ⟨S100x64, .f32⟩
  | 9 => ⟨S3x32, .f32⟩
  | 10 => ⟨S1000x64, .f32⟩
  | 11 => ⟨S417x256, .f32⟩
  | 12 => ⟨S256, .f32⟩
  | 13 => ⟨S256x128, .f32⟩
  | 14 => ⟨S128, .f32⟩
  | 15 => ⟨S128x64, .f32⟩
  | 16 => ⟨S64, .f32⟩
  | 17 => ⟨S64x1, .f32⟩
  | 18 => ⟨S1, .f32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x128, .f32⟩
  | 39 => ⟨S16384x128, .i1⟩
  | 40 => ⟨S_, .f32⟩
  | 41 => ⟨S16384x128, .f32⟩
  | 42 => ⟨S16384x128, .f32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384x128, .f32⟩
  | 63 => ⟨S16384x128, .i1⟩
  | 64 => ⟨S_, .f32⟩
  | 65 => ⟨S16384x128, .f32⟩
  | 66 => ⟨S16384x128, .f32⟩
  | 67 => ⟨S16384, .i32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S1, .i32⟩
  | 77 => ⟨S_, .i32⟩
  | 78 => ⟨S16384x1, .i32⟩
  | 79 => ⟨S16384x1, .i1⟩
  | 80 => ⟨S1x1, .i32⟩
  | 81 => ⟨S16384x1, .i32⟩
  | 82 => ⟨S16384x1, .i1⟩
  | 83 => ⟨S16384x1, .i1⟩
  | 84 => ⟨S_, .i1⟩
  | 85 => ⟨S16384, .i1⟩
  | 86 => ⟨S16384x64, .f32⟩
  | 87 => ⟨S16384x64, .i1⟩
  | 88 => ⟨S_, .f32⟩
  | 89 => ⟨S16384x64, .f32⟩
  | 90 => ⟨S16384x64, .f32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x32, .f32⟩
  | 111 => ⟨S16384x32, .i1⟩
  | 112 => ⟨S_, .f32⟩
  | 113 => ⟨S16384x32, .f32⟩
  | 114 => ⟨S16384x32, .f32⟩
  | 115 => ⟨S16384, .i32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S1, .i32⟩
  | 125 => ⟨S_, .i32⟩
  | 126 => ⟨S16384x1, .i32⟩
  | 127 => ⟨S16384x1, .i1⟩
  | _ => ⟨S16384x1, .i32⟩

abbrev hbmTy0_1 (i : Nat) : BufTy := match i % 128 with
  | 0 => ⟨S1x1, .i32⟩
  | 1 => ⟨S16384x1, .i32⟩
  | 2 => ⟨S16384x1, .i1⟩
  | 3 => ⟨S16384x1, .i1⟩
  | 4 => ⟨S_, .i1⟩
  | 5 => ⟨S16384, .i1⟩
  | 6 => ⟨S16384x64, .f32⟩
  | 7 => ⟨S16384x64, .i1⟩
  | 8 => ⟨S_, .f32⟩
  | 9 => ⟨S16384x64, .f32⟩
  | 10 => ⟨S16384x64, .f32⟩
  | 11 => ⟨S_, .f32⟩
  | 12 => ⟨S16384x1, .f32⟩
  | 13 => ⟨S16384x1, .f32⟩
  | 14 => ⟨S16384x417, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S16384x128, .f32⟩
  | 23 => ⟨S1x128, .f32⟩
  | 24 => ⟨S16384x128, .f32⟩
  | 25 => ⟨S16384x128, .f32⟩
  | 26 => ⟨S_, .f32⟩
  | 27 => ⟨S16384x128, .f32⟩
  | 28 => ⟨S16384x128, .f32⟩
  | 29 => ⟨S16384x64, .f32⟩
  | 30 => ⟨S1x64, .f32⟩
  | 31 => ⟨S16384x64, .f32⟩
  | 32 => ⟨S16384x64, .f32⟩
  | 33 => ⟨S_, .f32⟩
  | 34 => ⟨S16384x64, .f32⟩
  | 35 => ⟨S16384x64, .f32⟩
  | 36 => ⟨S16384x1, .f32⟩
  | 37 => ⟨S1x1, .f32⟩
  | 38 => ⟨S16384x1, .f32⟩
  | 39 => ⟨S16384x1, .f32⟩
  | 40 => ⟨S16384, .f32⟩
  | _ => ⟨S16384x1, .i32⟩

abbrev hbmTy (i : Nat) : BufTy := match i / 128 with
  | 0 => hbmTy0_0 i
  | 1 => hbmTy0_1 i
  | _ => ⟨S16384x1, .i32⟩

abbrev bufTy : (tb : Table) → Fin (tcTables nBuf tb) → BufTy
  | .hbm, ⟨i, _⟩ => hbmTy i
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v1 : Ref sig .tc := ⟨.hbm, 42, rfl⟩
abbrev main_v2 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v3 : Ref sig .tc := ⟨.hbm, 66, rfl⟩
abbrev main_v4 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v5 : Ref sig .tc := ⟨.hbm, 90, rfl⟩
abbrev main_v6 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v7 : Ref sig .tc := ⟨.hbm, 114, rfl⟩
abbrev main_v8 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v9 : Ref sig .tc := ⟨.hbm, 138, rfl⟩
abbrev main_cst : Ref sig .tc := ⟨.hbm, 139, rfl⟩
abbrev main_v10 : Ref sig .tc := ⟨.hbm, 140, rfl⟩
abbrev main_v11 : Ref sig .tc := ⟨.hbm, 141, rfl⟩
abbrev main_v12 : Ref sig .tc := ⟨.hbm, 142, rfl⟩
abbrev main_v13 : Ref sig .tc := ⟨.hbm, 143, rfl⟩
abbrev main_v14 : Ref sig .tc := ⟨.hbm, 144, rfl⟩
abbrev main_v15 : Ref sig .tc := ⟨.hbm, 145, rfl⟩
abbrev main_v16 : Ref sig .tc := ⟨.hbm, 146, rfl⟩
abbrev main_call5_cst : Ref sig .tc := ⟨.hbm, 147, rfl⟩
abbrev main_call5_v0 : Ref sig .tc := ⟨.hbm, 148, rfl⟩
abbrev main_v17 : Ref sig .tc := ⟨.hbm, 149, rfl⟩
abbrev main_v18 : Ref sig .tc := ⟨.hbm, 150, rfl⟩
abbrev main_v19 : Ref sig .tc := ⟨.hbm, 151, rfl⟩
abbrev main_v20 : Ref sig .tc := ⟨.hbm, 152, rfl⟩
abbrev main_v21 : Ref sig .tc := ⟨.hbm, 153, rfl⟩
abbrev main_call6_cst : Ref sig .tc := ⟨.hbm, 154, rfl⟩
abbrev main_call6_v0 : Ref sig .tc := ⟨.hbm, 155, rfl⟩
abbrev main_v22 : Ref sig .tc := ⟨.hbm, 156, rfl⟩
abbrev main_v23 : Ref sig .tc := ⟨.hbm, 157, rfl⟩
abbrev main_v24 : Ref sig .tc := ⟨.hbm, 158, rfl⟩
abbrev main_v25 : Ref sig .tc := ⟨.hbm, 159, rfl⟩
abbrev main_v26 : Ref sig .tc := ⟨.hbm, 160, rfl⟩
abbrev main_call7_cst : Ref sig .tc := ⟨.hbm, 161, rfl⟩
abbrev main_call7_v0 : Ref sig .tc := ⟨.hbm, 162, rfl⟩
abbrev main_v27 : Ref sig .tc := ⟨.hbm, 163, rfl⟩
abbrev main_v28 : Ref sig .tc := ⟨.hbm, 164, rfl⟩
abbrev main_v29 : Ref sig .tc := ⟨.hbm, 165, rfl⟩
abbrev main_v30 : Ref sig .tc := ⟨.hbm, 166, rfl⟩
abbrev main_v31 : Ref sig .tc := ⟨.hbm, 167, rfl⟩
abbrev main_v32 : Ref sig .tc := ⟨.hbm, 168, rfl⟩

abbrev nD : Nat := 1
abbrev τ : Topo := Topo.v7x

variable {F : FTy → Type} [FloatOps F]
-- ==== Proof.Ranges.lean ====
/-
  What the precondition says of the five lists of numbers: each number names a row of its table.
-/
module

public import proofs.«01_k».proof.Pre_in_range
public import proofs.«01_k».proof.Proof.Gen.Pre_in_range
public import Idealize.ShloMosaic.Lib.WordCmp
public import Idealize.ShloMosaic.Lib.ReduceAll
public import Idealize.ShloMosaic.Lib.Affine

@[expose] public section

noncomputable section

namespace Cert.Ranges

open Idealize.ShloMosaic Cert.Pre_in_range

/-- Every number names a row of its table. -/
structure InRange (a0 a1 a2 a3 a4 : IVec S16384x1 32) : Prop where
  user : ∀ i, (a0 i).toNat < 1000000
  age : ∀ i, (a1 i).toNat < 100
  gender : ∀ i, (a2 i).toNat < 3
  item : ∀ i, (a3 i).toNat < 100000
  category : ∀ i, (a4 i).toNat < 1000

/-- A scalar has one index. -/
instance one_index : Subsingleton S_.Idx := ⟨fun _ _ => funext fun k => k.elim0⟩

/-- One column's test, read back: all its bits set, each number is below the bound. -/
theorem column (x : IVec S16384x1 32) {n : Nat} (hn : n < 2 ^ 31) (j : S_.Idx)
    (h : Host.reduce IntOp.andi (andi (cmpi .sge x (broadcastInDim S16384x1 ![] Gen.bcast_S_S16384x1 (constantI S_ 32 0#32)))
      (cmpi .slt x (broadcastInDim S16384x1 ![] Gen.bcast_S_S16384x1 (constantI S_ 32 (BitVec.ofNat 32 n)))))
        (constantI S_ 1 1#1) Gen.reducesTo_S16384x1_S_d0_1 Gen.h_S_ j = 1#1) (i : S16384x1.Idx) : (x i).toNat < n := by
  have e := Host.reduce_andi_all _ _ _ _ j h i
  exact (WordCmp.ofBool_decide_eq_one_iff _).mp ((WordCmp.andi_sge_zero_slt_ofNat hn (x i)).symm.trans e)

/-- The precondition, read back. -/
theorem of_pre {F : FTy → Type} [FloatOps F] {a0 a1 a2 a3 a4 : IVec S16384x1 32} {a5 : FVec F S16384x1 .f32} {a6 : FVec F S1000000x128 .f32}
    {a7 : FVec F S100000x128 .f32} {a8 : FVec F S100x64 .f32} {a9 : FVec F S3x32 .f32} {a10 : FVec F S1000x64 .f32} {a11 : FVec F S417x256 .f32}
    {a12 : FVec F S256 .f32} {a13 : FVec F S256x128 .f32} {a14 : FVec F S128 .f32} {a15 : FVec F S128x64 .f32} {a16 : FVec F S64 .f32}
    {a17 : FVec F S64x1 .f32} {a18 : FVec F S1 .f32}
    (h : fn (F := F) a0 a1 a2 a3 a4 a5 a6 a7 a8 a9 a10 a11 a12 a13 a14 a15 a16 a17 a18 = fun _ => 1#1) : InRange a0 a1 a2 a3 a4 := by
  have h0 := congrFun h (fun k => k.elim0)
  simp only [fn, fn_part1, fn_part2] at h0
  obtain ⟨h1, hc⟩ := IntOp.andi_eq_one.mp h0
  obtain ⟨h2, hi⟩ := IntOp.andi_eq_one.mp h1
  obtain ⟨h3, hg⟩ := IntOp.andi_eq_one.mp h2
  obtain ⟨hu, ha⟩ := IntOp.andi_eq_one.mp h3
  exact ⟨column a0 (by decide) _ hu, column a1 (by decide) _ ha, column a2 (by decide) _ hg, column a3 (by decide) _ hi,
    column a4 (by decide) _ hc⟩

end Cert.Ranges
-- ==== Proof.Tile.lean ====
/-
  The SparseCore call, one vector subcore at a time: the subcore at a symbolic (core, subcore) pair fetches its 512 user
  numbers and its 512 item numbers, gathers the named rows of the two tables by eight indirect streams of 128 rows each,
  and writes them to its four blocks of 128 rows of either result. What is proved of it is the value: each block of a
  result ends as the table's rows its numbers name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueIdx
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's loops and regions. -/
abbrev ΛP : Labels := Pipeline.Sig Λ₀ (Fin 1) fun p => (pcfgs (F := F) p).Adm
/-- The SparseCore call of this program. -/
abbrev K [FloatOps F] [Named F] : SparseCore.Cfg τ sig (ΛP (F := F)) 1 := sc (F := F)
/-- The program's own definitions, the pipelined region among them. -/
abbrev D [FloatOps F] [Named F] : Defs nD τ sig (Elt F) (ΛP (F := F)) := Pipeline.defs pcfgs defs₀
/-- No loop of the program needs a measure. -/
abbrev 𝒱₀ : Variants := Variants.none
/-- The same, with the regions' measures beside it. -/
abbrev 𝒱 : Variants := 𝒱₀.lift
/-- The one measure used. -/
abbrev v₀ : 𝒱.V := Sum.inl none

/-! ## The ghost state: the handshakes' rounds, the pipeline's rounds, the transfers' counters -/

/-- The handshakes' ghost state. -/
abbrev UH : Type := URounds (GSem nD τ sig) ℕ
/-- All the ghost state: the handshakes', the region's rounds, the copies' counters. -/
abbrev UU : Type := UH × (UR sig nD τ × Counters)

local notation "𝕄" => MT nD τ sig (HIx 1) (Elt F) ℕ UU ℕ

/-- Where the handshakes' ghost state lies. -/
abbrev EH : Emb UH (MT nD τ sig (HIx 1) (Elt F) ℕ UU ℕ) := embL
/-- Where the region's ghost state lies. -/
def EP : Emb (UR sig nD τ) (MT nD τ sig (HIx 1) (Elt F) ℕ UU ℕ) :=
  (Emb.inl : Emb (UR sig nD τ) (UR sig nD τ × Counters)).trans
    ((Emb.inr : Emb (UR sig nD τ × Counters) UU).trans
      (uEmb (nD := nD) (τ := τ) (sig := sig) (Ix := HIx 1) (Val := Elt F) (Name := ℕ) (U := UU) (Lvl := ℕ)).toEmb)

/-- The region's ghost state lies in the part that may be stored. -/
instance EP_landsIn : (EP (F := F)).LandsIn (upEmb : UEmb _ (MT nD τ sig (HIx 1) (Elt F) ℕ UU ℕ)) := by
  unfold EP; infer_instance

variable [FloatOps F] [Named F]

/-- The SparseCore call's semaphores are apart and of the kinds that it needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The buffers -/

/-- The list of user numbers. -/
abbrev uiLoc (d : Dev nD) : Loc nD τ sig := (SparseCore.T d).loc main_v0
/-- The list of item numbers. -/
abbrev iiLoc (d : Dev nD) : Loc nD τ sig := (SparseCore.T d).loc main_v1
/-- The user table. -/
abbrev utLoc (d : Dev nD) : Loc nD τ sig := (SparseCore.T d).loc main_arg6
/-- The item table. -/
abbrev itLoc (d : Dev nD) : Loc nD τ sig := (SparseCore.T d).loc main_arg7
/-- The users' rows. -/
abbrev uoLoc (d : Dev nD) : Loc nD τ sig := (SparseCore.T d).loc main_v2_0
/-- The items' rows. -/
abbrev ioLoc (d : Dev nD) : Loc nD τ sig := (SparseCore.T d).loc main_v2_1

local notation "uiV" => (Memref.whole Cert.KernelIdeal.main_v0_scv : Memref Cert.KernelIdeal.sig Kind.scVector Space.hbm Cert.KernelIdeal.S16384 EltTy.i32)
local notation "iiV" => (Memref.whole Cert.KernelIdeal.main_v1_scv : Memref Cert.KernelIdeal.sig Kind.scVector Space.hbm Cert.KernelIdeal.S16384 EltTy.i32)
local notation "utV" => (Memref.whole Cert.KernelIdeal.main_arg6_scv : Memref Cert.KernelIdeal.sig Kind.scVector Space.hbm Cert.KernelIdeal.S1000000x128 EltTy.f32)
local notation "itV" => (Memref.whole Cert.KernelIdeal.main_arg7_scv : Memref Cert.KernelIdeal.sig Kind.scVector Space.hbm Cert.KernelIdeal.S100000x128 EltTy.f32)
local notation "uoV" => (Memref.whole Cert.KernelIdeal.main_v2_0_scv : Memref Cert.KernelIdeal.sig Kind.scVector Space.hbm Cert.KernelIdeal.S16384x128 EltTy.f32)
local notation "ioV" => (Memref.whole Cert.KernelIdeal.main_v2_1_scv : Memref Cert.KernelIdeal.sig Kind.scVector Space.hbm Cert.KernelIdeal.S16384x128 EltTy.f32)
local notation "l0V" => (Memref.whole Cert.KernelIdeal.cc0_scratch0 : Memref Cert.KernelIdeal.sig Kind.scVector Space.vmem Cert.KernelIdeal.S512 EltTy.i32)
local notation "l1V" => (Memref.whole Cert.KernelIdeal.cc0_scratch1 : Memref Cert.KernelIdeal.sig Kind.scVector Space.vmem Cert.KernelIdeal.S512 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)

variable (d : Dev nD) (L : grid0.Coords)

/-- The task's SparseCore. -/
abbrev cV (L : grid0.Coords) : Fin τ.nSC := (L 0).castLE hcore0
/-- The task's subcore. -/
abbrev jV (L : grid0.Coords) : Fin τ.nSub := (L 1).castLE hsub0
/-- The task's thread. -/
abbrev thr (d : Dev nD) (L : grid0.Coords) : Thread nD τ := V d (cV L) (jV L)

/-- The subcore's stretch of an array of 16384 numbers, as the kernel's fetch names it. -/
abbrev numRect (L : grid0.Coords) : Rect S16384 := Rect.unit (s := S16384) (k0_off1 L) S512.size (k0_off1_inb L)
/-- Block `r` of the subcore's four blocks of 128 rows of a result. -/
abbrev outRect (L : grid0.Coords) (r : Fin 4) : Rect S16384x128 :=
  Rect.unit (s := S16384x128) (k0_off2 L (BitVec.ofNat 32 (128 * r.val))) S128x128.size (k0_off2_inb L r)
/-- The `k`-th 128 of the 512 numbers a subcore holds. -/
theorem inb_part (k : Fin 4) : ∀ a, (![128 * k.val] : Fin 1 → Nat) a + S128.size a ≤ S512.size a := by
  intro a; obtain rfl : a = 0 := Subsingleton.elim _ _
  show 128 * k.val + 128 ≤ 512; have := k.isLt; omega

/-- A row number read out of a word: the word itself when it is one of the `n` rows. -/
def rowOf (n : ℕ) [NeZero n] (w : BitVec 32) : Fin n := Fin.ofNat n w.toNat

/-- A table's rows at the numbers of a list: what the call leaves of a result. -/
def picked {n : ℕ} [NeZero n] (idx : S16384.Idx → Elt F .i32) (tab : (⟨2, ![n, 128]⟩ : Shape).Idx → Elt F .f32) : S16384x128.Idx → Elt F .f32 :=
  fun x => tab (ix2 (rowOf n (idx (ix1 (x 0)))) (x 1))

/-- The subcore's 512 numbers of an array of 16384, at their places in its list. -/
def nums (idx : S16384.Idx → Elt F .i32) : S512.Idx → Elt F .i32 :=
  fun j => idx (ix1 ⟨1024 * (L 1).val + 512 * (L 0).val + (j 0).val, by
    have h0 : (L 0).val < 2 := (L 0).isLt
    have h1 : (L 1).val < 16 := (L 1).isLt
    have h2 : (j 0).val < 512 := (j 0).isLt
    omega⟩)

/-- The rows block `r` of the subcore gathers: row `i` is the table's at number `128 r + i` of the list. -/
def block {n : ℕ} [NeZero n] (r : Fin 4) (idx : S16384.Idx → Elt F .i32) (tab : (⟨2, ![n, 128]⟩ : Shape).Idx → Elt F .f32) :
    S128x128.Idx → Elt F .f32 :=
  fun x => tab (ix2 (rowOf n (nums L idx (ix1 ⟨128 * r.val + (x 0).val, by
    have h0 : (x 0).val < 128 := (x 0).isLt
    have := r.isLt
    omega⟩))) (x 1))

/-! ## The values the transfers carry -/

/-- The slice of a list the `k`-th stream of a table reads. -/
abbrev partRect (k : Fin 4) : Rect S512 := Rect.unit (s := S512) ![128 * k.val] S128.size (inb_part k)

/-- What a fetch leaves of a list: the subcore's numbers. -/
theorem fetched_u (idx : S16384.Idx → Elt F .i32) :
    ((uiV).slice (numRect L) (fun _ => rfl)).view.read (Elt F) idx = nums L idx := by
  funext j
  rw [View.read_apply]
  refine (cast_eq _ _).trans (congrArg idx ?_)
  refine (eq_ix1 _).trans (congrArg ix1 (Fin.ext ?_))
  show (k0_off1 L) 0 + 1 * (j 0).val = _
  rw [k0_off1_eq]; simp
/-- The same of the item list. -/
theorem fetched_i (idx : S16384.Idx → Elt F .i32) :
    ((iiV).slice (numRect L) (fun _ => rfl)).view.read (Elt F) idx = nums L idx := fetched_u L idx

/-- What a stream reads of a list at place `j`: the list's number at `128 k + j`. -/
theorem part_read0 (k : Fin 4) (f : S512.Idx → Elt F .i32) (j : S128.Idx) :
    ((l0V).slice (partRect k) (fun _ => rfl)).view.read (Elt F) f j
      = f (ix1 ⟨128 * k.val + (j 0).val, by
          have h0 : (j 0).val < 128 := (j 0).isLt
          have := k.isLt
          omega⟩) := by
  rw [View.read_apply]
  refine (cast_eq _ _).trans (congrArg f ?_)
  refine (eq_ix1 _).trans (congrArg ix1 (Fin.ext ?_))
  show 128 * k.val + 1 * (j 0).val = 128 * k.val + (j 0).val
  omega
/-- The same of the item list. -/
theorem part_read1 (k : Fin 4) (f : S512.Idx → Elt F .i32) (j : S128.Idx) :
    ((l1V).slice (partRect k) (fun _ => rfl)).view.read (Elt F) f j
      = f (ix1 ⟨128 * k.val + (j 0).val, by
          have h0 : (j 0).val < 128 := (j 0).isLt
          have := k.isLt
          omega⟩) := part_read0 k f j

/-- A stream's payload from a table of `n` rows, its list's words all below `n`: the table's rows at the words. -/
theorem payload_eq {n : ℕ} [NeZero n] {hg : (⟨2, ![n, 128]⟩ : Shape).Gathers 0 S128x128} (tab : (⟨2, ![n, 128]⟩ : Shape).Idx → Elt F .f32)
    (w : S128.Idx → Elt F .i32) (hn : S128.numel = S128x128.size hg.axis')
    (hin : ∀ x, (w x).toNat < (⟨2, ![n, 128]⟩ : Shape).size hg.axis) (x : S128x128.Idx) :
    SparseCore.gatherPayload (F := F) (e := .f32) hg tab (SparseCore.rows w hn hin) x = tab (ix2 (rowOf n (w (ix1 (x 0)))) (x 1)) := by
  unfold SparseCore.gatherPayload
  congr 1
  have hx : ∀ b : Fin 2, ((hg.idx (SparseCore.rows w hn hin) x) b).val = ((ix2 (rowOf n (w (ix1 (x 0)))) (x 1) : (⟨2, ![n, 128]⟩ : Shape).Idx) b).val := by
    intro b
    match b with
    | 0 =>
      have h := Shape.Gathers.idx_axis hg (SparseCore.rows w hn hin) x
      have h' : (hg.idx (SparseCore.rows w hn hin) x 0).val = (SparseCore.rows w hn hin (x hg.axis')).val := congrArg Fin.val h
      rw [h']
      have hw : (S128.rowMajor.symm ((x hg.axis').cast hn.symm)) = ix1 (x 0) := by
        refine (Equiv.symm_apply_eq _).mpr (Fin.ext ?_)
        exact (Shape.rowMajor_val_one (ix1 (x 0) : (⟨1, ![128]⟩ : Shape).Idx)).symm
      show (w (S128.rowMajor.symm ((x hg.axis').cast hn.symm))).toNat = (w (ix1 (x 0))).toNat % n
      rw [hw]
      exact (Nat.mod_eq_of_lt (hin _)).symm
    | 1 => exact Shape.Gathers.idx_of_ne hg _ x 1 Nat.one_ne_zero
  funext b
  exact Fin.ext (hx b)

/-- The user table as a stream names it. -/
abbrev utAll : Memref sig .scVector .hbm S1000000x128 .f32 := (utV).slice (Rect.unit (s := S1000000x128) ![0, 0] S1000000x128.size inb_S1000000x128_S1000000x128_0_0) (fun _ => rfl)
/-- The item table as a stream names it. -/
abbrev itAll : Memref sig .scVector .hbm S100000x128 .f32 := (itV).slice (Rect.unit (s := S100000x128) ![0, 0] S100000x128.size inb_S100000x128_S100000x128_0_0) (fun _ => rfl)
/-- The `k`-th quarter of the fetched user numbers. -/
abbrev l0Part (k : Fin 4) : Memref sig .scVector .vmem S128 .i32 := (l0V).slice (partRect k) (fun _ => rfl)
/-- The `k`-th quarter of the fetched item numbers. -/
abbrev l1Part (k : Fin 4) : Memref sig .scVector .vmem S128 .i32 := (l1V).slice (partRect k) (fun _ => rfl)
/-- The `r`-th block of the task's users' rows. -/
abbrev uoBlk (r : Fin 4) : Memref sig .scVector .hbm S128x128 .f32 := (uoV).slice (outRect L r) (fun _ => rfl)
/-- The `r`-th block of the task's items' rows. -/
abbrev ioBlk (r : Fin 4) : Memref sig .scVector .hbm S128x128 .f32 := (ioV).slice (outRect L r) (fun _ => rfl)

/-- The whole of a table read through the slice a stream names. -/
theorem utAll_read (f : S1000000x128.Idx → Elt F .f32) : utAll.view.read (Elt F) f = f := by
  funext j
  rw [View.read_apply]
  refine (cast_eq _ _).trans (congrArg f ?_)
  funext a; apply Fin.ext
  match a with
  | 0 => show 0 + 1 * (j 0).val = _; omega
  | 1 => show 0 + 1 * (j 1).val = _; omega
/-- The same of the item table. -/
theorem itAll_read (f : S100000x128.Idx → Elt F .f32) : itAll.view.read (Elt F) f = f := by
  funext j
  rw [View.read_apply]
  refine (cast_eq _ _).trans (congrArg f ?_)
  funext a; apply Fin.ext
  match a with
  | 0 => show 0 + 1 * (j 0).val = _; omega
  | 1 => show 0 + 1 * (j 1).val = _; omega

/-- Each number that a stream reads of the user list names a row of the user table. -/
theorem in_u (idx : S16384.Idx → Elt F .i32) (h : ∀ j, (idx j).toNat < 1000000) (k : Fin 4) (x : S128.Idx) :
    ((l0Part k).view.read (Elt F) (nums L idx) x).toNat < S1000000x128.size gathers_S1000000x128_S128x128.axis := by
  rw [part_read0]; exact h _
/-- Each number that a stream reads of the item list names a row of the item table. -/
theorem in_i (idx : S16384.Idx → Elt F .i32) (h : ∀ j, (idx j).toNat < 100000) (k : Fin 4) (x : S128.Idx) :
    ((l1Part k).view.read (Elt F) (nums L idx) x).toNat < S100000x128.size gathers_S100000x128_S128x128.axis := by
  rw [part_read1]; exact h _

/-- The `r`-th stream of the user table lands the block's rows. -/
theorem pay_u (r : Fin 4) (idx : S16384.Idx → Elt F .i32) (tab : S1000000x128.Idx → Elt F .f32) (hn)
    (hin : ∀ x, ((l0Part r).view.read (Elt F) (nums L idx) x).toNat < S1000000x128.size gathers_S1000000x128_S128x128.axis) :
    SparseCore.gatherPayload (F := F) (e := .f32) gathers_S1000000x128_S128x128 (utAll.view.read (Elt F) tab)
      (SparseCore.rows ((l0Part r).view.read (Elt F) (nums L idx)) hn hin) = block L r idx tab := by
  rw [utAll_read]
  funext x
  refine (payload_eq (n := 1000000) tab _ hn hin x).trans ?_
  rw [part_read0]; rfl
/-- The `r`-th stream of the item table lands the block's rows. -/
theorem pay_i (r : Fin 4) (idx : S16384.Idx → Elt F .i32) (tab : S100000x128.Idx → Elt F .f32) (hn)
    (hin : ∀ x, ((l1Part r).view.read (Elt F) (nums L idx) x).toNat < S100000x128.size gathers_S100000x128_S128x128.axis) :
    SparseCore.gatherPayload (F := F) (e := .f32) gathers_S100000x128_S128x128 (itAll.view.read (Elt F) tab)
      (SparseCore.rows ((l1Part r).view.read (Elt F) (nums L idx)) hn hin) = block L r idx tab := by
  rw [itAll_read]
  funext x
  refine (payload_eq (n := 100000) tab _ hn hin x).trans ?_
  rw [part_read1]; rfl

/-- Where element `x` of block `r` lies in a result. -/
theorem outRect_emb (r : Fin 4) (x : S128x128.Idx) :
    (outRect L r).emb x = ix2 ⟨1024 * (L 1).val + 512 * (L 0).val + 128 * r.val + (x 0).val, by
      have h0 : (x 0).val < 128 := (x 0).isLt
      have h1 : (L 0).val < 2 := (L 0).isLt
      have h2 : (L 1).val < 16 := (L 1).isLt
      have := r.isLt
      omega⟩ (x 1) := by
  funext a; apply Fin.ext
  rw [Rect.emb_apply]
  show (k0_off2 L (BitVec.ofNat 32 (128 * r.val))) a + 1 * (x a).val = _
  rw [k0_off2_eq]
  match a with
  | 0 => show 1024 * (L 1).val + 512 * (L 0).val + 128 * r.val + 1 * (x 0).val = 1024 * (L 1).val + 512 * (L 0).val + 128 * r.val + (x 0).val; omega
  | 1 => show 0 + 1 * (x 1).val = (x 1).val; omega

/-- A block, stored, is the picked rows at its place in the result. -/
theorem stored_at {n : ℕ} [NeZero n] (r : Fin 4) (idx : S16384.Idx → Elt F .i32) (tab : (⟨2, ![n, 128]⟩ : Shape).Idx → Elt F .f32) (x : S128x128.Idx) :
    block L r idx tab x = picked idx tab ((outRect L r).emb x) := by
  rw [outRect_emb]
  have e : nums L idx (ix1 ⟨128 * r.val + (x 0).val, by
        have h0 : (x 0).val < 128 := (x 0).isLt
        have := r.isLt
        omega⟩) = idx (ix1 ⟨1024 * (L 1).val + 512 * (L 0).val + 128 * r.val + (x 0).val, by
      have h0 : (x 0).val < 128 := (x 0).isLt
      have h1 : (L 0).val < 2 := (L 0).isLt
      have h2 : (L 1).val < 16 := (L 1).isLt
      have := r.isLt
      omega⟩) := congrArg (fun i => idx (ix1 i)) (Fin.ext (Nat.add_assoc _ _ _).symm)
  exact congrArg (fun w => tab (ix2 (rowOf n w) (x 1))) e

/-- A block of users' rows written back leaves the picked rows at its place. -/
theorem stored_u {n : ℕ} [NeZero n] (r : Fin 4) (idx : S16384.Idx → Elt F .i32) (tab : (⟨2, ![n, 128]⟩ : Shape).Idx → Elt F .f32)
    (fo : S16384x128.Idx → Elt F .f32) (w : S128x128.Idx → Elt F .f32) (hw : w = block L r idx tab) :
    ∀ i ∈ (uoBlk L r).view.set, (uoBlk L r).view.write (Elt F) fo w Finset.univ i = picked idx tab i := by
  subst hw
  intro i hi
  obtain ⟨x, -, rfl⟩ := Finset.mem_map.mp hi
  refine (View.write_emb_of_mem _ _ (Finset.mem_univ x)).trans ?_
  exact (cast_eq _ _).trans (stored_at L r idx tab x)
/-- A block of items' rows written back leaves the picked rows at its place. -/
theorem stored_i {n : ℕ} [NeZero n] (r : Fin 4) (idx : S16384.Idx → Elt F .i32) (tab : (⟨2, ![n, 128]⟩ : Shape).Idx → Elt F .f32)
    (fo : S16384x128.Idx → Elt F .f32) (w : S128x128.Idx → Elt F .f32) (hw : w = block L r idx tab) :
    ∀ i ∈ (ioBlk L r).view.set, (ioBlk L r).view.write (Elt F) fo w Finset.univ i = picked idx tab i := by
  subst hw
  intro i hi
  obtain ⟨x, -, rfl⟩ := Finset.mem_map.mp hi
  refine (View.write_emb_of_mem _ _ (Finset.mem_univ x)).trans ?_
  exact (cast_eq _ _).trans (stored_at L r idx tab x)

/-! ## One operation of the subcore at a time -/

section Steps

variable {c : Thread nD τ} {O : CellTallies nD τ sig (HIx 1)} {W : Waits sig (HIx 1)} {Q : PUnit → sProp (MT nD τ sig (HIx 1) (Elt F) ℕ UU ℕ)}

/-- What a thread owes, its recorded waits beyond `W` all of the kernel's own index. -/
def owed (c : Thread nD τ) (O : CellTallies nD τ sig (HIx 1)) (W : Waits sig (HIx 1)) : sProp (MT nD τ sig (HIx 1) (Elt F) ℕ UU ℕ) :=
  iprop(∃ W', ⌜∀ p ∈ W', p ∈ W ∨ p.2 = none⌝ ∗ owes c O W')

/-- At the start no wait has been added. -/
theorem owed_start : (owes c O W : sProp 𝕄) ⊢ owed c O W := by
  unfold owed
  iintro H; iexists W; isplitr
  · ipureintro; exact fun p hp => Or.inl hp
  · iexact H

/-- A plain copy issued: its completion is in flight. -/
theorem step_copy {sp sp' : Space} {s : Shape} {e : EltTy} {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {fs : Buf (Elt F) (src.view.loc c)} {Sd : Finset (Idx (dst.view.loc c))} {fd : Buf (Elt F) (dst.view.loc c)}
    (N : ℕ) (hN : dst.view.amount sm = N) (hN0 : 0 < N) (hSd : dst.view.set ⊆ Sd) :
    iprop((src.view.loc c ↦{q} fs) ∗ (dst.view.loc c ↦[Sd]{fullShare} fd) ∗ semVal (c, sm) 0)
      ⊢ iprop((Transfers.Flight countersEmb c sm (none : HIx 1) N
            iprop((dst.view.loc c ↦[Sd]{fullShare} (dst.view.write (Elt F) fd (src.view.read (Elt F) fs) Finset.univ)) ∗ (src.view.loc c ↦{q} fs)) -∗ Q ⟨⟩)
          -∗ wp frame (wpE (defs₀ (F := F)) 𝒱₀ c none) Set.univ (Prog.lift (.enqueueDma src (.here dst) sm hsrc hdst hsem)) Q) := by
  iintro H Hk
  iapply (Transfers.wp_dmaFromWhole countersEmb 𝒱₀ c none (via := ReadAs.same) (k := Prog.ret) (none : HIx 1) N hN hN0 hSd) $$ H
  iintro Hf
  rw [wp_ret]
  imodintro
  iapply Hk $$ Hf

/-- A wait on a copy in flight: what it delivers, its semaphore back at zero. -/
theorem step_wait (hO : ∀ g, O g none = 0) {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {N : ℕ} (hN : dstw.view.dmaCredit = N) {R : sProp (MT nD τ sig (HIx 1) (Elt F) ℕ UU ℕ)} :
    iprop(levAts (K (F := F)).L (K (F := F)).lev ∗ Transfers.Flight countersEmb c (.dma sem) (none : HIx 1) N R ∗ owed c O W)
      ⊢ iprop((iprop(R ∗ semVal (c, SemLoc.dma sem) 0 ∗ owed c O W) -∗ Q ⟨⟩)
          -∗ wp frame (wpE (defs₀ (F := F)) 𝒱₀ c none) Set.univ (Prog.lift (.waitDma2 sem srcw dstw hsrc hdst)) Q) := by
  unfold owed
  iintro ⟨#Hlv, Hf, ⟨%W', %hW', HO⟩⟩ Hk
  ihave Hmw := (show levAts (K (F := F)).L (K (F := F)).lev ⊢ Transfers.MayWaits c (none : HIx 1) O from
    (K (F := F)).mayWaits_none (thr := c) hO) $$ Hlv
  iapply (Transfers.wp_waitLocalO countersEmb 𝒱₀ c none (k := Prog.ret) (none : HIx 1) hN) $$ [Hf HO Hmw]
  · isplitl [Hf]; · iexact Hf
    isplitl [HO]; · iexact HO
    iapply (Transfers.MayWaits.elim (SemLoc.dma sem)) $$ Hmw
  iintro ⟨HR, Hs, HO⟩
  rw [wp_ret]
  imodintro
  iapply Hk
  isplitl [HR]; · iexact HR
  isplitl [Hs]; · iexact Hs
  iexists _; isplitr
  swap; · iexact HO
  ipureintro; intro p hp
  rcases Finset.mem_insert.mp hp with hp | hp
  · exact .inr (hp ▸ rfl)
  · exact hW' p hp

/-- The same of an indirect stream's wait. -/
theorem step_waitStream (hO : ∀ g, O g none = 0) {sp : Space} {s s' : Shape} {e e' : EltTy} {sem : DmaSem sig}
    {srcw : Memref sig c.2.kind sp s' e'} {dstw : Memref sig c.2.kind .vmem s e} {hsrc : srcw.view.WordExact} {hdst : dstw.view.WordExact}
    {N : ℕ} (hN : dstw.view.dmaCredit = N) {R : sProp (MT nD τ sig (HIx 1) (Elt F) ℕ UU ℕ)} :
    iprop(levAts (K (F := F)).L (K (F := F)).lev ∗ Transfers.Flight countersEmb c (.dma sem) (none : HIx 1) N R ∗ owed c O W)
      ⊢ iprop((iprop(R ∗ semVal (c, SemLoc.dma sem) 0 ∗ owed c O W) -∗ Q ⟨⟩)
          -∗ wp frame (wpE (defs₀ (F := F)) 𝒱₀ c none) Set.univ (SparseCore.waitIndirectGather sem srcw dstw hsrc hdst) Q) :=
  step_wait hO hN

/-- An indirect stream issued: its rows are in flight. -/
theorem step_stream {sp : Space} {s₀ s si : Shape} {e : EltTy} {a : Nat}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {q qo : PosShare TreeShare} {fs : Buf (Elt F) (src.view.loc c)} {fd : Buf (Elt F) (dst.view.loc c)} {fo : Buf (Elt F) (offs.view.loc c)}
    (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis) :
    iprop((src.view.loc c ↦{q} fs) ∗ (dst.view.loc c ↦{fullShare} fd) ∗ (offs.view.loc c ↦{qo} fo) ∗ semVal (c, SemLoc.dma sem) 0)
      ⊢ iprop((Transfers.Flight countersEmb c (.dma sem) (none : HIx 1) N
                iprop((dst.view.loc c ↦{fullShare} (dst.view.write (Elt F) fd (SparseCore.gatherPayload hg (src.view.read (Elt F) fs) (SparseCore.rows (offs.view.read
                    (Elt F) fo) hn hin)) Finset.univ))
                  ∗ (src.view.loc c ↦{q} fs) ∗ (offs.view.loc c ↦{qo} fo)) -∗ Q ⟨⟩)
          -∗ wp frame (wpE (defs₀ (F := F)) 𝒱₀ c none) Set.univ (SparseCore.enqueueIndirectGather hp src dst hg offs hn sem hsrc he hsp hr) Q) := by
  iintro H Hk
  rw [← Prog.bind_pure (SparseCore.enqueueIndirectGather hp src dst hg offs hn sem hsrc he hsp hr)]
  iapply (SparseCore.wp_gatherFromWhole countersEmb 𝒱₀ c none (k := Prog.ret) (none : HIx 1) N hN hs hin) $$ H
  iintro Hf
  rw [wp_ret]
  imodintro
  iapply Hk $$ Hf

end Steps

/-! ## The subcore's semaphores and scratch -/

/-- The ten DMA semaphores the kernel uses: a stream's and a store's per block, and the two fetches'. -/
def sems : Fin 10 → DmaSem sig :=
  ![cc0_scratch6.sem, cc0_scratch7.sem, cc0_scratch8.sem, cc0_scratch9.sem, cc0_scratch10.sem, cc0_scratch11.sem, cc0_scratch12.sem,
    cc0_scratch13.sem, cc0_scoped0.sem, cc0_scoped1.sem]
/-- The ten semaphores are apart. -/
theorem sems_inj : Function.Injective sems := by decide
/-- The six scratch buffers: two lists and four blocks. -/
def bufs : Fin 6 → Ref sig .scVector := ![cc0_scratch0, cc0_scratch1, cc0_scratch2, cc0_scratch3, cc0_scratch4, cc0_scratch5]
/-- The six buffers are apart. -/
theorem bufs_inj : Function.Injective bufs := by decide

/-- The task's ten semaphores among the machine's. -/
def semEmb : Fin 10 ↪ GSem nD τ sig :=
  ⟨fun k => (thr d L, SemLoc.dma (sems k)), fun a b h => sems_inj (SemLoc.dma.inj (Prod.ext_iff.mp h).2)⟩
/-- The task's six buffers among the machine's. -/
def bufEmb : Fin 6 ↪ DevRef τ sig :=
  ⟨fun k => (Proc.scVector (cV L) (jV L)).devRef (bufs k), fun a b h => bufs_inj (Proc.devRef_injective _ h)⟩

/-- The ten semaphores are the task's own. -/
theorem sems_own : (Finset.univ : Finset (Fin 10)).map (semEmb d L) ⊆ ownCells (thr d L) := by
  intro g hg
  obtain ⟨k, -, rfl⟩ := Finset.mem_map.mp hg
  refine mem_ownCells.mpr ⟨rfl, ?_⟩
  exact (by decide : ∀ k, (SemLoc.dma (sems k) : SemLoc sig).isScoped .scVector = true) k

/-- The six buffers are the task's own. -/
theorem bufs_own : (Finset.univ : Finset (Fin 6)).map (bufEmb L) ⊆ ownRefs (τ := τ) (.scVector (cV L) (jV L)) := by
  intro g hg
  obtain ⟨k, -, rfl⟩ := Finset.mem_map.mp hg
  refine SparseCore.Cfg.mem_ownRefs_of_owner (p := Proc.scVector (cV L) (jV L)) (b := (Proc.scVector (cV L) (jV L)).devRef (bufs k)) ?_
  match k with
  | 0 => rfl
  | 1 => rfl
  | 2 => rfl
  | 3 => rfl
  | 4 => rfl
  | 5 => rfl

/-- The subcore's counters: the kernel's ten, one by one, and the rest. -/
theorem ownSems0_split :
    (ownSems0 (thr d L) : sProp 𝕄)
      = iprop((semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0
          ∗ semVal (thr d L, SemLoc.dma cc0_scratch10.sem) 0 ∗ semVal (thr d L, SemLoc.dma cc0_scratch11.sem) 0
          ∗ semVal (thr d L, SemLoc.dma cc0_scratch12.sem) 0 ∗ semVal (thr d L, SemLoc.dma cc0_scratch13.sem) 0
          ∗ semVal (thr d L, SemLoc.dma cc0_scoped0.sem) 0 ∗ semVal (thr d L, SemLoc.dma cc0_scoped1.sem) 0)
        ∗ bigSep (ownCells (thr d L) \ (Finset.univ : Finset (Fin 10)).map (semEmb d L)) fun g => semVal g 0) := by
  unfold SparseCore.Cfg.ownSems0
  rw [SparseCore.bigSep_sdiff_split' (sems_own d L), bigSep_map, bigSep_univ_eq_bigSepL [0, 1, 2, 3, 4, 5, 6, 7, 8, 9] (by decide) (by decide)]
  rfl

/-- The subcore's scratch: the kernel's six buffers, one by one, at some contents, and the rest. -/
theorem ownBufs_split :
    (ownBufs (thr d L) : sProp 𝕄)
      = iprop(((∃ f, (l0V).view.loc (thr d L) ↦{fullShare} f) ∗ (∃ f, (l1V).view.loc (thr d L) ↦{fullShare} f)
          ∗ (∃ f, (b0V).view.loc (thr d L) ↦{fullShare} f) ∗ (∃ f, (b1V).view.loc (thr d L) ↦{fullShare} f)
          ∗ (∃ f, (b2V).view.loc (thr d L) ↦{fullShare} f) ∗ (∃ f, (b3V).view.loc (thr d L) ↦{fullShare} f))
        ∗ bigSep (ownRefs (τ := τ) (.scVector (cV L) (jV L)) \ (Finset.univ : Finset (Fin 6)).map (bufEmb L))
            fun b => iprop(∃ f, ((d, b) : Loc nD τ sig) ↦{fullShare} f)) := by
  unfold SparseCore.Cfg.ownBufs
  show bigSep (ownRefs (τ := τ) (.scVector (cV L) (jV L))) (fun b => iprop(∃ f, ((d, b) : Loc nD τ sig) ↦{fullShare} f)) = _
  rw [SparseCore.bigSep_sdiff_split' (bufs_own L), bigSep_map, bigSep_univ_eq_bigSepL [0, 1, 2, 3, 4, 5] (by decide) (by decide)]
  rfl

/-! ## The subcore's run -/

/-- A cell held whole is its four quarters. -/
theorem quarters {ℓ : Loc nD τ sig} (q : PosShare TreeShare) (f : Buf (Elt F) ℓ) :
    (ℓ ↦{q} f : sProp 𝕄) = iprop((ℓ ↦{leaf 2 q 0} f) ∗ (ℓ ↦{leaf 2 q 1} f) ∗ (ℓ ↦{leaf 2 q 2} f) ∗ (ℓ ↦{leaf 2 q 3} f)) := by
  rw [pointsTo_leaves Finset.univ f 2 q, show (Finset.univ : Finset (Fin (2 ^ 2))) = (Finset.univ : Finset (Fin 4)) from rfl,
    bigSep_univ_eq_bigSepL [0, 1, 2, 3] (by decide) (by decide)]
  rfl

/-- A subcore's share of the two lists of numbers and the two tables. -/
def reads (q : PosShare TreeShare) (ui : Buf (Elt F) (uiLoc d)) (ii : Buf (Elt F) (iiLoc d)) (ut : Buf (Elt F) (utLoc d)) (it : Buf (Elt F) (itLoc d)) : sProp 𝕄 :=
  iprop((uiLoc d ↦{q} ui) ∗ (iiLoc d ↦{q} ii) ∗ (utLoc d ↦{q} ut) ∗ (itLoc d ↦{q} it))
/-- A subcore's four blocks of the user rows, at given contents of the whole. -/
def uoBlks (f : Buf (Elt F) (uoLoc d)) : sProp 𝕄 :=
  iprop((uoLoc d ↦[(uoBlk L 0).view.set]{fullShare} f) ∗ (uoLoc d ↦[(uoBlk L 1).view.set]{fullShare} f) ∗ (uoLoc d ↦[(uoBlk L 2).view.set]{fullShare} f) ∗ (uoLoc d
      ↦[(uoBlk L 3).view.set]{fullShare} f))
/-- A subcore's four blocks of the item rows, at given contents of the whole. -/
def ioBlks (f : Buf (Elt F) (ioLoc d)) : sProp 𝕄 :=
  iprop((ioLoc d ↦[(ioBlk L 0).view.set]{fullShare} f) ∗ (ioLoc d ↦[(ioBlk L 1).view.set]{fullShare} f) ∗ (ioLoc d ↦[(ioBlk L 2).view.set]{fullShare} f) ∗ (ioLoc d
      ↦[(ioBlk L 3).view.set]{fullShare} f))

/-- A list's copy moves something. -/
theorem listCredit_pos : 0 < (l0V).view.dmaCredit := by decide
/-- A block's copy moves something. -/
theorem blockCredit_pos : 0 < (b0V).view.dmaCredit := by decide
/-- A block has elements. -/
theorem stream_pos : 0 < S128x128.numel := by decide
/-- The rows of a stream from the user table into block 0 count as much as the block. -/
theorem streamCredit_u0 : ∑ j, ((b0V).slice (S128x128.rowRect gathers_S1000000x128_S128x128.axis' j) (S128x128.stride_rowRect gathers_S1000000x128_S128x128.axis'
    j)).view.dmaCredit = (b0V).view.dmaCredit := by decide
/-- The rows of a stream from the user table into block 1 count as much as the block. -/
theorem streamCredit_u1 : ∑ j, ((b1V).slice (S128x128.rowRect gathers_S1000000x128_S128x128.axis' j) (S128x128.stride_rowRect gathers_S1000000x128_S128x128.axis'
    j)).view.dmaCredit = (b1V).view.dmaCredit := by decide
/-- The rows of a stream from the user table into block 2 count as much as the block. -/
theorem streamCredit_u2 : ∑ j, ((b2V).slice (S128x128.rowRect gathers_S1000000x128_S128x128.axis' j) (S128x128.stride_rowRect gathers_S1000000x128_S128x128.axis'
    j)).view.dmaCredit = (b2V).view.dmaCredit := by decide
/-- The rows of a stream from the user table into block 3 count as much as the block. -/
theorem streamCredit_u3 : ∑ j, ((b3V).slice (S128x128.rowRect gathers_S1000000x128_S128x128.axis' j) (S128x128.stride_rowRect gathers_S1000000x128_S128x128.axis'
    j)).view.dmaCredit = (b3V).view.dmaCredit := by decide
/-- The rows of a stream from the item table into block 0 count as much as the block. -/
theorem streamCredit_i0 : ∑ j, ((b0V).slice (S128x128.rowRect gathers_S100000x128_S128x128.axis' j) (S128x128.stride_rowRect gathers_S100000x128_S128x128.axis'
    j)).view.dmaCredit = (b0V).view.dmaCredit := by decide
/-- The rows of a stream from the item table into block 1 count as much as the block. -/
theorem streamCredit_i1 : ∑ j, ((b1V).slice (S128x128.rowRect gathers_S100000x128_S128x128.axis' j) (S128x128.stride_rowRect gathers_S100000x128_S128x128.axis'
    j)).view.dmaCredit = (b1V).view.dmaCredit := by decide
/-- The rows of a stream from the item table into block 2 count as much as the block. -/
theorem streamCredit_i2 : ∑ j, ((b2V).slice (S128x128.rowRect gathers_S100000x128_S128x128.axis' j) (S128x128.stride_rowRect gathers_S100000x128_S128x128.axis'
    j)).view.dmaCredit = (b2V).view.dmaCredit := by decide
/-- The rows of a stream from the item table into block 3 count as much as the block. -/
theorem streamCredit_i3 : ∑ j, ((b3V).slice (S128x128.rowRect gathers_S100000x128_S128x128.axis' j) (S128x128.stride_rowRect gathers_S100000x128_S128x128.axis'
    j)).view.dmaCredit = (b3V).view.dmaCredit := by decide

set_option maxHeartbeats 4000000 in
/-- One vector subcore's run of the call. -/
theorem tile_body (hF : (K (F := F)).Facts) (q : PosShare TreeShare)
    (ui : Buf (Elt F) (uiLoc d)) (ii : Buf (Elt F) (iiLoc d)) (ut : Buf (Elt F) (utLoc d)) (it : Buf (Elt F) (itLoc d))
    (fu : Buf (Elt F) (uoLoc d)) (fi : Buf (Elt F) (ioLoc d))
    (hu : ∀ j : S16384.Idx, ((ui j : BitVec 32)).toNat < 1000000) (hi : ∀ j : S16384.Idx, ((ii j : BitVec 32)).toNat < 100000)
    (O : CellTallies nD τ sig (HIx 1)) (W : Waits sig (HIx 1)) (hO : ∀ g, O g none = 0) :
    iprop(levAts (K (F := F)).L (K (F := F)).lev ∗ emp ∗ (reads d q ui ii ut it ∗ uoBlks d L fu ∗ ioBlks d L fi)
        ∗ scopedBufs (thr d L) ∗ scopedSems0 (thr d L) ∗ owes (thr d L) O W)
      ⊢ wp frame (wpE (defs₀ (F := F)) 𝒱₀ (thr d L) none) Set.univ
          (cc0_gather (F := F) L uiV (Memref.isWhole_whole _) iiV (Memref.isWhole_whole _) utV (Memref.isWhole_whole _) itV (Memref.isWhole_whole _)
            uoV (Memref.isWhole_whole _) ioV (Memref.isWhole_whole _) l0V (Memref.isWhole_whole _) l1V (Memref.isWhole_whole _)
            b0V (Memref.isWhole_whole _) b1V (Memref.isWhole_whole _) b2V (Memref.isWhole_whole _) b3V (Memref.isWhole_whole _)
            cc0_scratch6 cc0_scratch7 cc0_scratch8 cc0_scratch9 cc0_scratch10 cc0_scratch11 cc0_scratch12 cc0_scratch13 cc0_scoped0 cc0_scoped1)
          fun _ => iprop((reads d q ui ii ut it ∗ uoBlks d L (picked (n := 1000000) ui ut) ∗ ioBlks d L (picked (n := 100000) ii it))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_split d L, ownBufs_split d L]
  unfold reads uoBlks ioBlks
  simp only [cc0_gather_eq_skeleton]
  unfold cc0_gather_skel
  simp only [k0_part1_eq_skeleton, k0_part2_eq_skeleton, k0_part3_eq_skeleton]
  unfold k0_part1_skel k0_part2_skel k0_part3_skel
  simp only [wp_bind, wp_pure]
  iintro ⟨#Hlv, -, ⟨⟨Hui, Hii, Hut, Hit⟩, ⟨Hu0, Hu1, Hu2, Hu3⟩, ⟨Hi0, Hi1, Hi2, Hi3⟩⟩, ⟨⟨⟨%fl0, Hl0⟩, ⟨%fl1, Hl1⟩, ⟨%fb0, Hb0⟩, ⟨%fb1, Hb1⟩, ⟨%fb2, Hb2⟩, ⟨%fb3, Hb3⟩⟩, Hbr⟩,
    ⟨⟨Hg0, Hg1, Hg2, Hg3, Hs0, Hs1, Hs2, Hs3, Hf0, Hf1⟩, Hsr⟩, HO⟩
  ihave HO := owed_start $$ HO
  iapply (step_copy (c := thr d L) (l0V).view.dmaCredit rfl listCredit_pos (Finset.subset_univ _)) $$ [Hui Hl0 Hf0]
  · isplitl [Hui]; · iexact Hui
    isplitl [Hl0]; · iexact Hl0
    iexact Hf0
  iintro Hfl
  iapply (step_wait (c := thr d L) (W := W) hO rfl) $$ [Hfl HO]
  · isplitr; · iexact Hlv
    isplitl [Hfl]; · iexact Hfl
    iexact HO
  iintro ⟨⟨Hl0, Hui⟩, Hf0, HO⟩
  ihave Hl0 := (Entails.of_eq (congrArg (fun f => (((l0V).view.loc (thr d L)) ↦{fullShare} f : sProp 𝕄)) ((View.write_whole_univ _ _ _).trans (fetched_u L ui)))) $$ Hl0
  iapply (step_copy (c := thr d L) (l0V).view.dmaCredit rfl listCredit_pos (Finset.subset_univ _)) $$ [Hii Hl1 Hf1]
  · isplitl [Hii]; · iexact Hii
    isplitl [Hl1]; · iexact Hl1
    iexact Hf1
  iintro Hfl
  iapply (step_wait (c := thr d L) (W := W) hO rfl) $$ [Hfl HO]
  · isplitr; · iexact Hlv
    isplitl [Hfl]; · iexact Hfl
    iexact HO
  iintro ⟨⟨Hl1, Hii⟩, Hf1, HO⟩
  ihave Hl1 := (Entails.of_eq (congrArg (fun f => (((l1V).view.loc (thr d L)) ↦{fullShare} f : sProp 𝕄)) ((View.write_whole_univ _ _ _).trans (fetched_i L ii)))) $$ Hl1
  ihave ⟨Hp0, Hp1, Hp2, Hp3⟩ := (Entails.of_eq (quarters _ _)) $$ Hl0
  ihave ⟨Hr0, Hr1, Hr2, Hr3⟩ := (Entails.of_eq (quarters _ _)) $$ Hl1
  ihave ⟨Hut0, Hut1, Hut2, Hut3⟩ := (Entails.of_eq (quarters _ _)) $$ Hut
  ihave ⟨Hit0, Hit1, Hit2, Hit3⟩ := (Entails.of_eq (quarters _ _)) $$ Hit
  iapply (step_stream (c := thr d L) (b0V).view.dmaCredit streamCredit_u0 stream_pos (in_u L _ hu 0)) $$ [Hut0 Hb0 Hp0 Hg0]
  · isplitl [Hut0]; · iexact Hut0
    isplitl [Hb0]; · iexact Hb0
    isplitl [Hp0]; · iexact Hp0
    iexact Hg0
  iintro Hb0
  iapply (step_stream (c := thr d L) (b1V).view.dmaCredit streamCredit_u1 stream_pos (in_u L _ hu 1)) $$ [Hut1 Hb1 Hp1 Hg1]
  · isplitl [Hut1]; · iexact Hut1
    isplitl [Hb1]; · iexact Hb1
    isplitl [Hp1]; · iexact Hp1
    iexact Hg1
  iintro Hb1
  iapply (step_stream (c := thr d L) (b2V).view.dmaCredit streamCredit_u2 stream_pos (in_u L _ hu 2)) $$ [Hut2 Hb2 Hp2 Hg2]
  · isplitl [Hut2]; · iexact Hut2
    isplitl [Hb2]; · iexact Hb2
    isplitl [Hp2]; · iexact Hp2
    iexact Hg2
  iintro Hb2
  iapply (step_stream (c := thr d L) (b3V).view.dmaCredit streamCredit_u3 stream_pos (in_u L _ hu 3)) $$ [Hut3 Hb3 Hp3 Hg3]
  · isplitl [Hut3]; · iexact Hut3
    isplitl [Hb3]; · iexact Hb3
    isplitl [Hp3]; · iexact Hp3
    iexact Hg3
  iintro Hb3
  iapply (step_waitStream (c := thr d L) (W := W) hO rfl) $$ [Hb0 HO]
  · isplitr; · iexact Hlv
    isplitl [Hb0]; · iexact Hb0
    iexact HO
  iintro ⟨⟨Hb0, Hut0, Hp0⟩, Hg0, HO⟩
  ihave Hb0 := (Entails.of_eq (congrArg (fun f => (((b0V).view.loc (thr d L)) ↦{fullShare} f : sProp 𝕄)) ((View.write_whole_univ _ _ _).trans (pay_u L 0 ui ut _ (in_u L ui hu 0))))) $$ Hb0
  iapply (step_copy (c := thr d L) (b0V).view.dmaCredit rfl blockCredit_pos (Finset.Subset.refl _)) $$ [Hb0 Hu0 Hs0]
  · isplitl [Hb0]; · iexact Hb0
    isplitl [Hu0]; · iexact Hu0
    iexact Hs0
  iintro Hc0
  imodintro
  iapply (step_wait (c := thr d L) (W := W) hO rfl) $$ [Hc0 HO]
  · isplitr; · iexact Hlv
    isplitl [Hc0]; · iexact Hc0
    iexact HO
  iintro ⟨⟨Hu0, Hb0⟩, Hs0, HO⟩
  ihave Hu0 := (Entails.of_eq (pointsTo_congr (ℓ := uoLoc d) (I := (uoBlk L 0).view.set) (stored_u (n := 1000000) L 0 ui ut _ _ (View.read_whole _ _)))) $$ Hu0
  iapply (step_stream (c := thr d L) (b0V).view.dmaCredit streamCredit_i0 stream_pos (in_i L _ hi 0)) $$ [Hit0 Hb0 Hr0 Hg0]
  · isplitl [Hit0]; · iexact Hit0
    isplitl [Hb0]; · iexact Hb0
    isplitl [Hr0]; · iexact Hr0
    iexact Hg0
  iintro Hb0
  iapply (step_waitStream (c := thr d L) (W := W) hO rfl) $$ [Hb1 HO]
  · isplitr; · iexact Hlv
    isplitl [Hb1]; · iexact Hb1
    iexact HO
  iintro ⟨⟨Hb1, Hut1, Hp1⟩, Hg1, HO⟩
  ihave Hb1 := (Entails.of_eq (congrArg (fun f => (((b1V).view.loc (thr d L)) ↦{fullShare} f : sProp 𝕄)) ((View.write_whole_univ _ _ _).trans (pay_u L 1 ui ut _ (in_u L ui hu 1))))) $$ Hb1
  iapply (step_copy (c := thr d L) (b0V).view.dmaCredit rfl blockCredit_pos (Finset.Subset.refl _)) $$ [Hb1 Hu1 Hs1]
  · isplitl [Hb1]; · iexact Hb1
    isplitl [Hu1]; · iexact Hu1
    iexact Hs1
  iintro Hc1
  iapply (step_wait (c := thr d L) (W := W) hO rfl) $$ [Hc1 HO]
  · isplitr; · iexact Hlv
    isplitl [Hc1]; · iexact Hc1
    iexact HO
  iintro ⟨⟨Hu1, Hb1⟩, Hs1, HO⟩
  ihave Hu1 := (Entails.of_eq (pointsTo_congr (ℓ := uoLoc d) (I := (uoBlk L 1).view.set) (stored_u (n := 1000000) L 1 ui ut _ _ (View.read_whole _ _)))) $$ Hu1
  iapply (step_stream (c := thr d L) (b1V).view.dmaCredit streamCredit_i1 stream_pos (in_i L _ hi 1)) $$ [Hit1 Hb1 Hr1 Hg1]
  · isplitl [Hit1]; · iexact Hit1
    isplitl [Hb1]; · iexact Hb1
    isplitl [Hr1]; · iexact Hr1
    iexact Hg1
  iintro Hb1
  iapply (step_waitStream (c := thr d L) (W := W) hO rfl) $$ [Hb2 HO]
  · isplitr; · iexact Hlv
    isplitl [Hb2]; · iexact Hb2
    iexact HO
  iintro ⟨⟨Hb2, Hut2, Hp2⟩, Hg2, HO⟩
  ihave Hb2 := (Entails.of_eq (congrArg (fun f => (((b2V).view.loc (thr d L)) ↦{fullShare} f : sProp 𝕄)) ((View.write_whole_univ _ _ _).trans (pay_u L 2 ui ut _ (in_u L ui hu 2))))) $$ Hb2
  iapply (step_copy (c := thr d L) (b0V).view.dmaCredit rfl blockCredit_pos (Finset.Subset.refl _)) $$ [Hb2 Hu2 Hs2]
  · isplitl [Hb2]; · iexact Hb2
    isplitl [Hu2]; · iexact Hu2
    iexact Hs2
  iintro Hc2
  iapply (step_wait (c := thr d L) (W := W) hO rfl) $$ [Hc2 HO]
  · isplitr; · iexact Hlv
    isplitl [Hc2]; · iexact Hc2
    iexact HO
  iintro ⟨⟨Hu2, Hb2⟩, Hs2, HO⟩
  ihave Hu2 := (Entails.of_eq (pointsTo_congr (ℓ := uoLoc d) (I := (uoBlk L 2).view.set) (stored_u (n := 1000000) L 2 ui ut _ _ (View.read_whole _ _)))) $$ Hu2
  iapply (step_stream (c := thr d L) (b2V).view.dmaCredit streamCredit_i2 stream_pos (in_i L _ hi 2)) $$ [Hit2 Hb2 Hr2 Hg2]
  · isplitl [Hit2]; · iexact Hit2
    isplitl [Hb2]; · iexact Hb2
    isplitl [Hr2]; · iexact Hr2
    iexact Hg2
  iintro Hb2
  imodintro
  iapply (step_waitStream (c := thr d L) (W := W) hO rfl) $$ [Hb3 HO]
  · isplitr; · iexact Hlv
    isplitl [Hb3]; · iexact Hb3
    iexact HO
  iintro ⟨⟨Hb3, Hut3, Hp3⟩, Hg3, HO⟩
  ihave Hb3 := (Entails.of_eq (congrArg (fun f => (((b3V).view.loc (thr d L)) ↦{fullShare} f : sProp 𝕄)) ((View.write_whole_univ _ _ _).trans (pay_u L 3 ui ut _ (in_u L ui hu 3))))) $$ Hb3
  iapply (step_copy (c := thr d L) (b0V).view.dmaCredit rfl blockCredit_pos (Finset.Subset.refl _)) $$ [Hb3 Hu3 Hs3]
  · isplitl [Hb3]; · iexact Hb3
    isplitl [Hu3]; · iexact Hu3
    iexact Hs3
  iintro Hc3
  iapply (step_wait (c := thr d L) (W := W) hO rfl) $$ [Hc3 HO]
  · isplitr; · iexact Hlv
    isplitl [Hc3]; · iexact Hc3
    iexact HO
  iintro ⟨⟨Hu3, Hb3⟩, Hs3, HO⟩
  ihave Hu3 := (Entails.of_eq (pointsTo_congr (ℓ := uoLoc d) (I := (uoBlk L 3).view.set) (stored_u (n := 1000000) L 3 ui ut _ _ (View.read_whole _ _)))) $$ Hu3
  iapply (step_stream (c := thr d L) (b3V).view.dmaCredit streamCredit_i3 stream_pos (in_i L _ hi 3)) $$ [Hit3 Hb3 Hr3 Hg3]
  · isplitl [Hit3]; · iexact Hit3
    isplitl [Hb3]; · iexact Hb3
    isplitl [Hr3]; · iexact Hr3
    iexact Hg3
  iintro Hb3
  iapply (step_waitStream (c := thr d L) (W := W) hO rfl) $$ [Hb0 HO]
  · isplitr; · iexact Hlv
    isplitl [Hb0]; · iexact Hb0
    iexact HO
  iintro ⟨⟨Hb0, Hit0, Hr0⟩, Hg0, HO⟩
  ihave Hb0 := (Entails.of_eq (congrArg (fun f => (((b0V).view.loc (thr d L)) ↦{fullShare} f : sProp 𝕄)) ((View.write_whole_univ _ _ _).trans (pay_i L 0 ii it _ (in_i L ii hi 0))))) $$ Hb0
  iapply (step_copy (c := thr d L) (b0V).view.dmaCredit rfl blockCredit_pos (Finset.Subset.refl _)) $$ [Hb0 Hi0 Hs0]
  · isplitl [Hb0]; · iexact Hb0
    isplitl [Hi0]; · iexact Hi0
    iexact Hs0
  iintro Hc0
  iapply (step_waitStream (c := thr d L) (W := W) hO rfl) $$ [Hb1 HO]
  · isplitr; · iexact Hlv
    isplitl [Hb1]; · iexact Hb1
    iexact HO
  iintro ⟨⟨Hb1, Hit1, Hr1⟩, Hg1, HO⟩
  ihave Hb1 := (Entails.of_eq (congrArg (fun f => (((b1V).view.loc (thr d L)) ↦{fullShare} f : sProp 𝕄)) ((View.write_whole_univ _ _ _).trans (pay_i L 1 ii it _ (in_i L ii hi 1))))) $$ Hb1
  iapply (step_copy (c := thr d L) (b0V).view.dmaCredit rfl blockCredit_pos (Finset.Subset.refl _)) $$ [Hb1 Hi1 Hs1]
  · isplitl [Hb1]; · iexact Hb1
    isplitl [Hi1]; · iexact Hi1
    iexact Hs1
  iintro Hc1
  iapply (step_waitStream (c := thr d L) (W := W) hO rfl) $$ [Hb2 HO]
  · isplitr; · iexact Hlv
    isplitl [Hb2]; · iexact Hb2
    iexact HO
  iintro ⟨⟨Hb2, Hit2, Hr2⟩, Hg2, HO⟩
  ihave Hb2 := (Entails.of_eq (congrArg (fun f => (((b2V).view.loc (thr d L)) ↦{fullShare} f : sProp 𝕄)) ((View.write_whole_univ _ _ _).trans (pay_i L 2 ii it _ (in_i L ii hi 2))))) $$ Hb2
  iapply (step_copy (c := thr d L) (b0V).view.dmaCredit rfl blockCredit_pos (Finset.Subset.refl _)) $$ [Hb2 Hi2 Hs2]
  · isplitl [Hb2]; · iexact Hb2
    isplitl [Hi2]; · iexact Hi2
    iexact Hs2
  iintro Hc2
  imodintro
  iapply (step_waitStream (c := thr d L) (W := W) hO rfl) $$ [Hb3 HO]
  · isplitr; · iexact Hlv
    isplitl [Hb3]; · iexact Hb3
    iexact HO
  iintro ⟨⟨Hb3, Hit3, Hr3⟩, Hg3, HO⟩
  ihave Hb3 := (Entails.of_eq (congrArg (fun f => (((b3V).view.loc (thr d L)) ↦{fullShare} f : sProp 𝕄)) ((View.write_whole_univ _ _ _).trans (pay_i L 3 ii it _ (in_i L ii hi 3))))) $$ Hb3
  iapply (step_copy (c := thr d L) (b0V).view.dmaCredit rfl blockCredit_pos (Finset.Subset.refl _)) $$ [Hb3 Hi3 Hs3]
  · isplitl [Hb3]; · iexact Hb3
    isplitl [Hi3]; · iexact Hi3
    iexact Hs3
  iintro Hc3
  iapply (step_wait (c := thr d L) (W := W) hO rfl) $$ [Hc0 HO]
  · isplitr; · iexact Hlv
    isplitl [Hc0]; · iexact Hc0
    iexact HO
  iintro ⟨⟨Hi0, Hb0⟩, Hs0, HO⟩
  ihave Hi0 := (Entails.of_eq (pointsTo_congr (ℓ := ioLoc d) (I := (ioBlk L 0).view.set) (stored_i (n := 100000) L 0 ii it _ _ (View.read_whole _ _)))) $$ Hi0
  iapply (step_wait (c := thr d L) (W := W) hO rfl) $$ [Hc1 HO]
  · isplitr; · iexact Hlv
    isplitl [Hc1]; · iexact Hc1
    iexact HO
  iintro ⟨⟨Hi1, Hb1⟩, Hs1, HO⟩
  ihave Hi1 := (Entails.of_eq (pointsTo_congr (ℓ := ioLoc d) (I := (ioBlk L 1).view.set) (stored_i (n := 100000) L 1 ii it _ _ (View.read_whole _ _)))) $$ Hi1
  iapply (step_wait (c := thr d L) (W := W) hO rfl) $$ [Hc2 HO]
  · isplitr; · iexact Hlv
    isplitl [Hc2]; · iexact Hc2
    iexact HO
  iintro ⟨⟨Hi2, Hb2⟩, Hs2, HO⟩
  ihave Hi2 := (Entails.of_eq (pointsTo_congr (ℓ := ioLoc d) (I := (ioBlk L 2).view.set) (stored_i (n := 100000) L 2 ii it _ _ (View.read_whole _ _)))) $$ Hi2
  iapply (step_wait (c := thr d L) (W := W) hO rfl) $$ [Hc3 HO]
  · isplitr; · iexact Hlv
    isplitl [Hc3]; · iexact Hc3
    iexact HO
  iintro ⟨⟨Hi3, Hb3⟩, Hs3, HO⟩
  ihave Hi3 := (Entails.of_eq (pointsTo_congr (ℓ := ioLoc d) (I := (ioBlk L 3).view.set) (stored_i (n := 100000) L 3 ii it _ _ (View.read_whole _ _)))) $$ Hi3
  ihave Hl0 := (Entails.of_eq (quarters _ _).symm) $$ [Hp0 Hp1 Hp2 Hp3]
  · isplitl [Hp0]; · iexact Hp0
    isplitl [Hp1]; · iexact Hp1
    isplitl [Hp2]; · iexact Hp2
    iexact Hp3
  ihave Hl1 := (Entails.of_eq (quarters _ _).symm) $$ [Hr0 Hr1 Hr2 Hr3]
  · isplitl [Hr0]; · iexact Hr0
    isplitl [Hr1]; · iexact Hr1
    isplitl [Hr2]; · iexact Hr2
    iexact Hr3
  ihave Hut := (Entails.of_eq (quarters _ _).symm) $$ [Hut0 Hut1 Hut2 Hut3]
  · isplitl [Hut0]; · iexact Hut0
    isplitl [Hut1]; · iexact Hut1
    isplitl [Hut2]; · iexact Hut2
    iexact Hut3
  ihave Hit := (Entails.of_eq (quarters _ _).symm) $$ [Hit0 Hit1 Hit2 Hit3]
  · isplitl [Hit0]; · iexact Hit0
    isplitl [Hit1]; · iexact Hit1
    isplitl [Hit2]; · iexact Hit2
    iexact Hit3
  unfold owed
  imodintro
  isplitl [Hui Hii Hut Hit Hu0 Hu1 Hu2 Hu3 Hi0 Hi1 Hi2 Hi3]
  · isplitl [Hui Hii Hut Hit]
    · isplitl [Hui]; · iexact Hui
      isplitl [Hii]; · iexact Hii
      isplitl [Hut]; · iexact Hut
      iexact Hit
    isplitl [Hu0 Hu1 Hu2 Hu3]
    · isplitl [Hu0]; · iexact Hu0
      isplitl [Hu1]; · iexact Hu1
      isplitl [Hu2]; · iexact Hu2
      iexact Hu3
    · isplitl [Hi0]; · iexact Hi0
      isplitl [Hi1]; · iexact Hi1
      isplitl [Hi2]; · iexact Hi2
      iexact Hi3
  isplitl [Hl0 Hl1 Hb0 Hb1 Hb2 Hb3 Hbr]
  · isplitr [Hbr]
    · isplitl [Hl0]; · iexists _; iexact Hl0
      isplitl [Hl1]; · iexists _; iexact Hl1
      isplitl [Hb0]; · iexists _; iexact Hb0
      isplitl [Hb1]; · iexists _; iexact Hb1
      isplitl [Hb2]; · iexists _; iexact Hb2
      iexists _; iexact Hb3
    · iexact Hbr
  isplitr [HO]
  · isplitr [Hsr]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      isplitl [Hs2]; · iexact Hs2
      isplitl [Hs3]; · iexact Hs3
      isplitl [Hf0]; · iexact Hf0
      iexact Hf1
    · iexact Hsr
  iexact HO

end Cert.KernelIdeal.Tile

end
-- ==== Proof.Call.lean ====
/-
  The SparseCore call as the launch sees it: what its start hands each vector subcore (a share of the numbers and of the
  tables, and its own four blocks of either result) and what comes back; the subcores' holdings are together the six whole
  arrays, so the call takes the results to the picked rows and leaves the rest.
-/
module

public import proofs.«01_k».proof.Proof.Tile

@[expose] public section

set_option maxRecDepth 16384

noncomputable section

namespace Cert.KernelIdeal.Call

open Cert.KernelIdeal Cert.KernelIdeal.Gen Cert.KernelIdeal.Tile

open Idealize.ShloMosaic
open Idealize.ShloMosaic.SparseCore (T)
open Idealize.ShloMosaic.SparseCore.Cfg (HIx)
open Idealize.ShloMosaic.ShareLeaves (leaf pointsTo_leaves)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F] [Named F]

local notation "𝕄" => MT nD τ sig (HIx 1) (Elt F) ℕ UU ℕ

/-- A vector subcore's place in the call's grid. -/
def place (c : Fin (grid0.bound 0)) (s : Fin (grid0.bound 1)) : grid0.Coords :=
  fun | 0 => c | 1 => s | ⟨_ + 2, h⟩ => absurd h (Nat.not_lt.2 (Nat.le_add_left _ _))

/-- A vector subcore's share of an array every subcore reads: one of thirty-two. -/
abbrev part (c : Fin 2) (s : Fin 16) : PosShare TreeShare := leaf 4 (leaf 1 fullShare c) s

/-! ## The results' blocks -/

/-- A row of a result lies in the block of the subcore and number its row number says. -/
theorem mem_block (c : Fin 2) (s : Fin 16) (r : Fin 4) (x : S16384x128.Idx) :
    x ∈ (outRect (place c s) r).set ↔ (x 0).val / 128 = 8 * s.val + 4 * c.val + r.val := by
  rw [Rect.mem_set_unit, k0_off2_eq]
  have h0 : (x 0).val < 16384 := (x 0).isLt
  have h1 : (x 1).val < 128 := (x 1).isLt
  constructor
  · intro h
    have h := h 0
    have h : 1024 * s.val + 512 * c.val + 128 * r.val ≤ (x 0).val ∧ (x 0).val < 1024 * s.val + 512 * c.val + 128 * r.val + 128 := h
    omega
  · intro h a
    match a with
    | 0 => show 1024 * s.val + 512 * c.val + 128 * r.val ≤ (x 0).val ∧ (x 0).val < 1024 * s.val + 512 * c.val + 128 * r.val + 128; omega
    | 1 => show 0 ≤ (x 1).val ∧ (x 1).val < 0 + 128; omega

/-- The block of a result a subcore and a number name. -/
def blockSet (p : (Fin 2 × Fin 16) × Fin 4) : Finset S16384x128.Idx := (outRect (place p.1.1 p.1.2) p.2).set

/-- Two different blocks share no element. -/
theorem blockSet_disjoint : ∀ p ∈ (Finset.univ : Finset ((Fin 2 × Fin 16) × Fin 4)), ∀ p' ∈ (Finset.univ : Finset ((Fin 2 × Fin 16) × Fin 4)),
    p ≠ p' → Disjoint (blockSet p) (blockSet p') := by
  rintro ⟨⟨c, s⟩, r⟩ - ⟨⟨c', s'⟩, r'⟩ - hne
  refine Finset.disjoint_left.mpr fun x hx hx' => hne ?_
  have h := (mem_block c s r x).mp hx
  have h' := (mem_block c' s' r' x).mp hx'
  have := c.isLt; have := c'.isLt; have := r.isLt; have := r'.isLt
  obtain rfl : c = c' := Fin.ext (by omega)
  obtain rfl : s = s' := Fin.ext (by omega)
  obtain rfl : r = r' := Fin.ext (by omega)
  rfl

/-- The blocks together are the whole result. -/
theorem blockSet_cover : (Finset.univ : Finset ((Fin 2 × Fin 16) × Fin 4)).biUnion blockSet = Finset.univ := by
  refine Finset.eq_univ_iff_forall.mpr fun x => ?_
  have h0 : (x 0).val < 16384 := (x 0).isLt
  refine Finset.mem_biUnion.mpr ⟨((⟨(x 0).val / 512 % 2, by omega⟩, ⟨(x 0).val / 1024, by omega⟩), ⟨(x 0).val / 128 % 4, by omega⟩), Finset.mem_univ _, ?_⟩
  refine (mem_block _ _ _ x).mpr ?_
  show (x 0).val / 128 = 8 * ((x 0).val / 1024) + 4 * ((x 0).val / 512 % 2) + (x 0).val / 128 % 4
  omega

/-- The elements of a block of users' rows. -/
theorem uoBlk_set (L : grid0.Coords) (r : Fin 4) : (uoBlk L r).view.set = (outRect L r).set := by
  show ((View.whole (main_v2_0_scv : Ref sig .scVector)).slice (outRect L r)).set = _
  rw [View.set_slice]; exact Finset.map_refl
/-- The elements of a block of items' rows. -/
theorem ioBlk_set (L : grid0.Coords) (r : Fin 4) : (ioBlk L r).view.set = (outRect L r).set := by
  show ((View.whole (main_v2_1_scv : Ref sig .scVector)).slice (outRect L r)).set = _
  rw [View.set_slice]; exact Finset.map_refl

/-- The user rows whole are every subcore's four blocks of them. -/
theorem uo_split (d : Dev nD) (f : Buf (Elt F) (uoLoc d)) :
    (uoLoc d ↦{fullShare} f : sProp 𝕄) = bigSep Finset.univ fun c : Fin 2 => bigSep Finset.univ fun s : Fin 16 => uoBlks d (place c s) f := by
  have h := pointsTo_biUnion (Ix := HIx 1) (Name := ℕ) (U := UU) (Lvl := ℕ) (Val := Elt F) Finset.univ (ℓ := uoLoc d) (q := fullShare) (f := f) blockSet blockSet_disjoint
  rw [blockSet_cover] at h
  refine h.trans ?_
  rw [bigSep_univ_prod, bigSep_univ_prod]
  refine bigSep_congr fun c _ => bigSep_congr fun s _ => ?_
  rw [BI.bigSep_univ_eq_bigSepL [0, 1, 2, 3] (by decide) (by decide)]
  unfold uoBlks
  rw [uoBlk_set, uoBlk_set, uoBlk_set, uoBlk_set]
  rfl
/-- The item rows whole are every subcore's four blocks of them. -/
theorem io_split (d : Dev nD) (f : Buf (Elt F) (ioLoc d)) :
    (ioLoc d ↦{fullShare} f : sProp 𝕄) = bigSep Finset.univ fun c : Fin 2 => bigSep Finset.univ fun s : Fin 16 => ioBlks d (place c s) f := by
  have h := pointsTo_biUnion (Ix := HIx 1) (Name := ℕ) (U := UU) (Lvl := ℕ) (Val := Elt F) Finset.univ (ℓ := ioLoc d) (q := fullShare) (f := f) blockSet blockSet_disjoint
  rw [blockSet_cover] at h
  refine h.trans ?_
  rw [bigSep_univ_prod, bigSep_univ_prod]
  refine bigSep_congr fun c _ => bigSep_congr fun s _ => ?_
  rw [BI.bigSep_univ_eq_bigSepL [0, 1, 2, 3] (by decide) (by decide)]
  unfold ioBlks
  rw [ioBlk_set, ioBlk_set, ioBlk_set, ioBlk_set]
  rfl

/-- An array every subcore reads, whole, is every subcore's share of it. -/
theorem share_split {ℓ : Loc nD τ sig} (f : Buf (Elt F) ℓ) :
    (ℓ ↦{fullShare} f : sProp 𝕄) = bigSep Finset.univ fun c : Fin 2 => bigSep Finset.univ fun s : Fin 16 => ℓ ↦{part c s} f := by
  rw [pointsTo_leaves Finset.univ f 1 fullShare]
  exact bigSep_congr fun c _ => pointsTo_leaves Finset.univ f 4 _

/-! ## A subcore's holdings, and the call's -/

section Holdings

variable (d : Dev nD) (ui : Buf (Elt F) (uiLoc d)) (ii : Buf (Elt F) (iiLoc d)) (ut : Buf (Elt F) (utLoc d)) (it : Buf (Elt F) (itLoc d))

/-- What a vector subcore holds, its blocks of the results at given contents. -/
def task (fu : Buf (Elt F) (uoLoc d)) (fi : Buf (Elt F) (ioLoc d)) (c : Fin 2) (s : Fin 16) : sProp 𝕄 :=
  iprop(reads d (part c s) ui ii ut it ∗ uoBlks d (place c s) fu ∗ ioBlks d (place c s) fi)

/-- The six arrays of the call whole, the results at given contents. -/
def six (fu : Buf (Elt F) (uoLoc d)) (fi : Buf (Elt F) (ioLoc d)) : sProp 𝕄 :=
  iprop(((uiLoc d ↦{fullShare} ui) ∗ (iiLoc d ↦{fullShare} ii) ∗ (utLoc d ↦{fullShare} ut) ∗ (itLoc d ↦{fullShare} it))
    ∗ (uoLoc d ↦{fullShare} fu) ∗ (ioLoc d ↦{fullShare} fi))

/-- The six arrays whole are what the subcores hold together. -/
theorem six_eq (fu : Buf (Elt F) (uoLoc d)) (fi : Buf (Elt F) (ioLoc d)) :
    six d ui ii ut it fu fi = bigSep Finset.univ fun c : Fin 2 => bigSep Finset.univ fun s : Fin 16 => task d ui ii ut it fu fi c s := by
  unfold six task reads
  rw [share_split ui, share_split ii, share_split ut, share_split it, uo_split, io_split]
  simp only [bigSep_sep']

end Holdings

/-! ## The call's payloads and obligations -/

variable (U : Dev nD → Valuation τ sig (Elt F))

/-- The user numbers at the call. -/
abbrev at_ui (d : Dev nD) : Buf (Elt F) (uiLoc d) := U d (Proc.devRef .tc main_v0)
/-- The item numbers at the call. -/
abbrev at_ii (d : Dev nD) : Buf (Elt F) (iiLoc d) := U d (Proc.devRef .tc main_v1)
/-- The user table at the call. -/
abbrev at_ut (d : Dev nD) : Buf (Elt F) (utLoc d) := U d (Proc.devRef .tc main_arg6)
/-- The item table at the call. -/
abbrev at_it (d : Dev nD) : Buf (Elt F) (itLoc d) := U d (Proc.devRef .tc main_arg7)
/-- What the users' rows hold before the call. -/
abbrev at_uo (d : Dev nD) : Buf (Elt F) (uoLoc d) := U d (Proc.devRef .tc main_v2_0)
/-- What the items' rows hold before the call. -/
abbrev at_io (d : Dev nD) : Buf (Elt F) (ioLoc d) := U d (Proc.devRef .tc main_v2_1)

/-- The user rows as the call leaves them. -/
def userRows (d : Dev nD) : Buf (Elt F) (uoLoc d) := picked (n := 1000000) (at_ui U d) (at_ut U d)
/-- The item rows as the call leaves them. -/
def itemRows (d : Dev nD) : Buf (Elt F) (ioLoc d) := picked (n := 100000) (at_ii U d) (at_it U d)

/-- What a task is given. -/
abbrev before (d : Dev nD) (c : Fin 2) (s : Fin 16) : sProp 𝕄 := task d (at_ui U d) (at_ii U d) (at_ut U d) (at_it U d) (at_uo U d) (at_io U d) c s
/-- What a task gives back. -/
abbrev afterwards (d : Dev nD) (c : Fin 2) (s : Fin 16) : sProp 𝕄 := task d (at_ui U d) (at_ii U d) (at_ut U d) (at_it U d) (userRows U d) (itemRows U d) c s

/-- What a task holds may be kept in an invariant. -/
instance task_storable (d : Dev nD) (ui ii ut it) (fu fi) (c : Fin 2) (s : Fin 16) :
    BI.Storable (upEmb : UEmb _ 𝕄) (task (F := F) d ui ii ut it fu fi c s) := by
  unfold task reads uoBlks ioBlks; infer_instance

/-- The call runs on two SparseCores. -/
theorem nCore_zero : (K (F := F)).nCore 0 = 2 := rfl
/-- The call runs on sixteen subcores of each. -/
theorem nSub_zero : (K (F := F)).nSub 0 = 16 := rfl

/-- What the call's handshakes carry: a SparseCore takes its sixteen subcores' holdings and brings them back. -/
def P : (K (F := F)).Pay (nD := nD) (Val := Elt F) (Name := ℕ) (U := UU) where
  st := fun q d c => match q with | 0 => bigSep Finset.univ fun s : Fin ((K (F := F)).nSub 0) => before U d (Fin.cast nCore_zero c) (Fin.cast nSub_zero s)
  dn := fun q d c => match q with | 0 => bigSep Finset.univ fun s : Fin ((K (F := F)).nSub 0) => afterwards U d (Fin.cast nCore_zero c) (Fin.cast nSub_zero s)
  go := fun q d c s => match q with | 0 => before U d (Fin.cast nCore_zero c) (Fin.cast nSub_zero s)
  td := fun q d c s => match q with | 0 => afterwards U d (Fin.cast nCore_zero c) (Fin.cast nSub_zero s)
  x := fun _ _ => iprop(emp)

/-- All that the call passes may be kept in an invariant. -/
instance P_storable : (P (F := F) U).IsStorable where
  st q d c := match q with
    | 0 => (inferInstance : BI.Storable (upEmb : UEmb _ 𝕄) (bigSep Finset.univ fun s : Fin ((K (F := F)).nSub 0) => before U d (Fin.cast nCore_zero c) (Fin.cast nSub_zero s)))
  dn q d c := match q with
    | 0 => (inferInstance : BI.Storable (upEmb : UEmb _ 𝕄) (bigSep Finset.univ fun s : Fin ((K (F := F)).nSub 0) => afterwards U d (Fin.cast nCore_zero c) (Fin.cast nSub_zero s)))
  go q d c s := match q with
    | 0 => (inferInstance : BI.Storable (upEmb : UEmb _ 𝕄) (before U d (Fin.cast nCore_zero c) (Fin.cast nSub_zero s)))
  td q d c s := match q with
    | 0 => (inferInstance : BI.Storable (upEmb : UEmb _ 𝕄) (afterwards U d (Fin.cast nCore_zero c) (Fin.cast nSub_zero s)))

/-- What is asked of the numbers the call finds: each names a row of its table. -/
def Named_rows : Prop :=
  ∀ d : Dev nD, (∀ j : S16384.Idx, (at_ui U d j : BitVec 32).toNat < 1000000) ∧ (∀ j : S16384.Idx, (at_ii U d j : BitVec 32).toNat < 100000)

/-- A subcore's program is the task. -/
theorem vector_row (c : Fin τ.nSC) (s : Fin τ.nSub) :
    defs₀ (F := F) (.scVector c s) 0 ()
      = SparseCore.onTile hcore0 hsub0 (fun c s => cc0_gather (place c s)
          (Memref.whole main_v0_scv) (Memref.isWhole_whole _) (Memref.whole main_v1_scv) (Memref.isWhole_whole _)
          (Memref.whole main_arg6_scv) (Memref.isWhole_whole _) (Memref.whole main_arg7_scv) (Memref.isWhole_whole _)
          (Memref.whole main_v2_0_scv) (Memref.isWhole_whole _) (Memref.whole main_v2_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scoped0 cc0_scoped1) ⟨⟩ c s := rfl

/-- A subcore's waits, recorded with the call's among them. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's run of the call takes its holdings to those the call leaves. -/
theorem tile_runs (hU : Named_rows U) : (K (F := F)).TileObl (D (F := F)) 𝒱 (P U) v₀ 0 := by
  intro d c i O W hO _ _
  simp only [show (P U).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_row]; simp only [SparseCore.onTile, hci, and_self, ↓reduceDIte]
  exact (tile_body d (place ⟨_, hci.1⟩ ⟨_, hci.2⟩) facts (part (Fin.cast nCore_zero c) (Fin.cast nSub_zero i)) (at_ui U d) (at_ii U d) (at_ut U d) (at_it U d)
    (at_uo U d) (at_io U d) (hU d).1 (hU d).2 O W hO).trans (wp_mono frame _ _ fun _ => waits_weaken)

/-- A SparseCore's holdings are its subcores', before and after. -/
theorem vec_split : (K (F := F)).VecSplit' (P U) 0 := by
  intro d c
  show (bigSep Finset.univ fun s : Fin ((K (F := F)).nSub 0) => before U d (Fin.cast nCore_zero c) (Fin.cast nSub_zero s)) ⊢ |={Set.univ}=> iprop(
      (bigSep Finset.univ fun s : Fin ((K (F := F)).nSub 0) => before U d (Fin.cast nCore_zero c) (Fin.cast nSub_zero s))
      ∗ ((bigSep Finset.univ fun s : Fin ((K (F := F)).nSub 0) => afterwards U d (Fin.cast nCore_zero c) (Fin.cast nSub_zero s))
          -∗ (bigSep Finset.univ fun s : Fin ((K (F := F)).nSub 0) => afterwards U d (Fin.cast nCore_zero c) (Fin.cast nSub_zero s))))
  iintro H; imodintro
  isplitl [H]; · iexact H
  iintro H; iexact H

/-- What the call takes, over its SparseCores: the six arrays as it finds them. -/
theorem takes (d : Dev nD) : (bigSep Finset.univ fun c : Fin ((K (F := F)).nCore 0) => (P U).st 0 d c)
    = six d (at_ui U d) (at_ii U d) (at_ut U d) (at_it U d) (at_uo U d) (at_io U d) := by
  rw [six_eq]; rfl
/-- What the call brings back: the same with the results at the picked rows. -/
theorem brings (d : Dev nD) : (bigSep Finset.univ fun c : Fin ((K (F := F)).nCore 0) => (P U).dn 0 d c)
    = six d (at_ui U d) (at_ii U d) (at_ut U d) (at_it U d) (userRows U d) (itemRows U d) := by
  rw [six_eq]; rfl

end Cert.KernelIdeal.Call
-- ==== Proof.Region.lean ====
/-
  The dense layers, one grid point at a time, and the TensorCore call as a whole: at each of its eight points the body
  reads one block of 2048 rows of every operand that has rows and the whole of every other, and leaves one block of the
  result; the call leaves the result at those blocks laid one after another.
-/
module

public import proofs.«01_k».proof.Proof.Tile
public import Idealize.ShloMosaic.Lib.Pipeline.Regions
public import Idealize.ShloMosaic.Lib.Pipeline.FrameBody
public import Idealize.ShloMosaic.Lib.Pipeline.RegionArrays
public import Idealize.ShloMosaic.Lib.Pipeline.ValueKit

@[expose] public section

set_option maxRecDepth 16384

noncomputable section

namespace Cert.KernelIdeal.Region

open Cert.KernelIdeal Cert.KernelIdeal.Gen Cert.KernelIdeal.Tile

open Idealize.ShloMosaic
open Idealize.ShloMosaic.TcCoe
open Idealize.ShloMosaic.SparseCore (T)
open Idealize.ShloMosaic.SparseCore.Cfg (HIx)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}
variable [FloatOps F] [Named F]

local notation "𝕄" => MT nD τ sig (HIx 1) (Elt F) ℕ UU ℕ

/-! ## The body -/

/-- The block the body leaves, from what its operands' buffers hold. -/
def outBlk
    (x1 : Vec F S2048x128 .f32) (x2 : Vec F S2048x128 .f32) (x3 : Vec F S1x1x2048 .i32) (x4 : Vec F S1x1x2048 .i32) (x5 : Vec F S1x1x2048 .i32)
    (x6 : Vec F S1x1x2048 .f32) (x7 : Vec F S100x64 .bf16) (x8 : Vec F S3x32 .bf16) (x9 : Vec F S1000x64 .bf16) (x10 : Vec F S417x256 .bf16)
    (x11 : Vec F S1x256 .f32) (x12 : Vec F S256x128 .bf16) (x13 : Vec F S1x128 .f32) (x14 : Vec F S128x64 .bf16) (x15 : Vec F S1x64 .f32)
    (x16 : Vec F S64x1 .bf16) (x17 : Vec F S1x1 .f32) : Vec F S1x1x2048 .f32 :=
  k1_pay1 (k1_pay6 (k1_pay2 x10) (k1_pay3 x10 x1 x2 x3 x7) (k1_pay4 x4) (k1_pay5 x8) (constant S2048x32 .f32 0x00000000#32) x5 x9 x6 x11 x12)
    x13 x14 x15 x16 x17

/-- The whole of a result block. -/
abbrev rOut : Rect S1x1x2048 := Rect.unit (s := S1x1x2048) ![0, 0, 0] S1x1x2048.size inb_S1x1x2048_S1x1x2048_0_0_0
/-- The body's one store covers its result's block. -/
theorem cover_out (p : Vec F S1x1x2048 .f32) (y : S1x1x2048.Idx) :
    ∃ pc ∈ ([⟨rOut, p⟩] : List (View.Piece (Elt F) S1x1x2048 .f32)), y ∈ pc.1.set :=
  View.cover_of_tiled [⟨rOut, p⟩] S1x1x2048.size (by rfl) y

/-- A load of a whole buffer reads the buffer. -/
theorem load_whole {sp : Space} {s : Shape} {e : EltTy} (v : View sig .tc sp s e) {off : Fin s.rank → Nat} (inb : ∀ a, off a + s.size a ≤ s.size a)
    (f : v.ty.Contents (Elt F)) (h : ∀ a, off a = 0) : v.readAt (Elt F) (Rect.unit off s.size inb).toLoadRect f = v.read (Elt F) f :=
  View.ld_unit_lit inb (v.read (Elt F) f) h

set_option maxHeartbeats 2000000 in
/-- One run of the body: the operands' buffers as they were, the result's at `outBlk` of them. -/
theorem body_run (c : Dev nD) (i : grid1.Coords)
    (arg1 : Memref sig .tc .vmem S2048x128 .f32) (harg1 : arg1.IsWhole) (arg2 : Memref sig .tc .vmem S2048x128 .f32) (harg2 : arg2.IsWhole)
    (arg3 : Memref sig .tc .vmem S1x1x2048 .i32) (harg3 : arg3.IsWhole) (arg4 : Memref sig .tc .vmem S1x1x2048 .i32) (harg4 : arg4.IsWhole)
    (arg5 : Memref sig .tc .vmem S1x1x2048 .i32) (harg5 : arg5.IsWhole) (arg6 : Memref sig .tc .vmem S1x1x2048 .f32) (harg6 : arg6.IsWhole)
    (arg7 : Memref sig .tc .vmem S100x64 .bf16) (harg7 : arg7.IsWhole) (arg8 : Memref sig .tc .vmem S3x32 .bf16) (harg8 : arg8.IsWhole)
    (arg9 : Memref sig .tc .vmem S1000x64 .bf16) (harg9 : arg9.IsWhole) (arg10 : Memref sig .tc .vmem S417x256 .bf16) (harg10 : arg10.IsWhole)
    (arg11 : Memref sig .tc .vmem S1x256 .f32) (harg11 : arg11.IsWhole) (arg12 : Memref sig .tc .vmem S256x128 .bf16) (harg12 : arg12.IsWhole)
    (arg13 : Memref sig .tc .vmem S1x128 .f32) (harg13 : arg13.IsWhole) (arg14 : Memref sig .tc .vmem S128x64 .bf16) (harg14 : arg14.IsWhole)
    (arg15 : Memref sig .tc .vmem S1x64 .f32) (harg15 : arg15.IsWhole) (arg16 : Memref sig .tc .vmem S64x1 .bf16) (harg16 : arg16.IsWhole)
    (arg17 : Memref sig .tc .vmem S1x1 .f32) (harg17 : arg17.IsWhole) (arg18 : Memref sig .tc .vmem S1x1x2048 .f32) (harg18 : arg18.IsWhole)
    (x1 : Vec F S2048x128 .f32) (x2 : Vec F S2048x128 .f32) (x3 : Vec F S1x1x2048 .i32) (x4 : Vec F S1x1x2048 .i32) (x5 : Vec F S1x1x2048 .i32)
    (x6 : Vec F S1x1x2048 .f32) (x7 : Vec F S100x64 .bf16) (x8 : Vec F S3x32 .bf16) (x9 : Vec F S1000x64 .bf16) (x10 : Vec F S417x256 .bf16)
    (x11 : Vec F S1x256 .f32) (x12 : Vec F S256x128 .bf16) (x13 : Vec F S1x128 .f32) (x14 : Vec F S128x64 .bf16) (x15 : Vec F S1x64 .f32)
    (x16 : Vec F S64x1 .bf16) (x17 : Vec F S1x1 .f32)
    (Q : PUnit → sProp 𝕄) :
    iprop(owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD τ) arg12 fullShare x12 ∗
        owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17
        ∗ (∃ y, owns (c : Thread nD τ) arg18 fullShare y)
        ∗ (iprop(owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD τ) arg12 fullShare x12 ∗
        owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17
            ∗ owns (c : Thread nD τ) arg18 fullShare (outBlk x1 x2 x3 x4 x5 x6 x7 x8 x9 x10 x11 x12 x13 x14 x15 x16 x17)) -∗ Q ⟨⟩))
      ⊢ wp frame (wpE (defs₀ (F := F)) 𝒱₀ c none) Set.univ
          (cc1__mlp_body i arg1 harg1 arg2 harg2 arg3 harg3 arg4 harg4 arg5 harg5 arg6 harg6 arg7 harg7 arg8 harg8 arg9 harg9 arg10 harg10 arg11 harg11 arg12 harg12
            arg13 harg13 arg14 harg14 arg15 harg15 arg16 harg16 arg17 harg17 arg18 harg18) Q := by
  simp only [cc1__mlp_body_eq_skeleton]
  unfold cc1__mlp_body_skel
  simp only [k1_part1_eq_skeleton, k1_part2_eq_skeleton]
  unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%d18, %f18, -, H18⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  refine (View.read_writes_eq_canon _ _ _ (cover_out _)).trans ?_
  refine (View.canon_cons_unit_lit _ _ _ (by decide)).trans ?_
  unfold outBlk
  rw [load_whole arg10.view _ _ (by decide), load_whole arg1.view _ _ (by decide), load_whole arg2.view _ _ (by decide),
    load_whole arg3.view _ _ (by decide), load_whole arg7.view _ _ (by decide), load_whole arg4.view _ _ (by decide),
    load_whole arg8.view _ _ (by decide), load_whole arg5.view _ _ (by decide), load_whole arg9.view _ _ (by decide),
    load_whole arg6.view _ _ (by decide), load_whole arg11.view _ _ (by decide), load_whole arg12.view _ _ (by decide),
    load_whole arg13.view _ _ (by decide), load_whole arg14.view _ _ (by decide), load_whole arg15.view _ _ (by decide),
    load_whole arg16.view _ _ (by decide), load_whole arg17.view _ _ (by decide)]
  rfl

/-! ## The call's proof data -/

variable (V : Dev nD → Valuation τ sig (Elt F))

/-- A window's block at a point, of its array as the call finds it. -/
def iblk (c : Dev nD) (w : Fin cfg1.W) (t : Fin cfg1.N) :
    ((cfg1.win w).xblock (cfg1.grid.coords t)).Idx → Elt F (cfg1.win w).elt :=
  ((cfg1.win w).blk t).view.read (Elt F) (V c (Proc.devRef .tc (Pipeline.arrRef spec1 w)))

/-- The block the body leaves at a point. -/
def outAt (c : Dev nD) (t : Fin cfg1.N) : Vec F S1x1x2048 .f32 :=
  outBlk
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t) (iblk V c 13 t) (iblk V c 14 t) (iblk V c 15 t) (iblk V c 16 t)

/-- The call's proof data: the operands' buffers as fetched, the result's at `outAt`; nothing owed; the waits recorded
    before it at or below the level the SparseCore call leaves. -/
def dats (_ : Fin 1) (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => outAt V c t
    | ⟨_ + 18, h⟩ => absurd h (Nat.not_lt.2 (Nat.le_add_left _ _))
  Φ _ := iprop(emp)
  q _ := fullShare
  owed _ := 0
  recorded _ := {p | (K (F := F)).lev ((T c : Thread nD τ), p.1) p.2 ≤ 8}

/-- An operand's array is what the memory holds on entry. -/
theorem A_eq (c : Dev nD) (w : Fin cfg1.W) : (dats V 0 c).A w = V c (Proc.devRef .tc (Pipeline.arrRef spec1 w)) := by
  dsimp only [dats]

/-- What an operand's buffer holds when the body runs: its block, fetched there or not. -/
theorem before_in (c : Dev nD) (w : Fin cfg1.W) (hw : (cfg1.win w).isOut = false) (hlive : ∀ i, cfg1.idle w i = false)
    (hclip : ∀ i a, (cfg1.win w).clip i a = none)
    (ha : ∀ t, (cfg1.win w).cut (cfg1.grid.coords t) ((dats V 0 c).after w t) = (dats V 0 c).blockOf w t) (t : Fin cfg1.N) (d) :
    (dats V 0 c).before w t d = (dats V 0 c).fetched w t d :=
  (dats V 0 c).before_in_eq_fetched w hw hlive (fun t t' _ => funext fun a => (hclip _ a).trans (hclip _ a).symm) ha t d

/-- The body leaves operand 0's block as it was. -/
theorem after_0 (c : Dev nD) (t : Fin cfg1.N) : (dats V 0 c).after 0 t = iblk V c 0 t := by dsimp only [dats]
/-- When the body runs, operand 0's buffer holds its block. -/
theorem before_0 (c : Dev nD) (t : Fin cfg1.N) (d) : (dats V 0 c).before 0 t d = iblk V c 0 t :=
  (before_in V c 0 rfl (fun _ => rfl) (fun _ _ => rfl) (fun t => by rw [after_0]; rfl) t d).trans rfl
/-- The body leaves operand 1's block as it was. -/
theorem after_1 (c : Dev nD) (t : Fin cfg1.N) : (dats V 0 c).after 1 t = iblk V c 1 t := by dsimp only [dats]
/-- When the body runs, operand 1's buffer holds its block. -/
theorem before_1 (c : Dev nD) (t : Fin cfg1.N) (d) : (dats V 0 c).before 1 t d = iblk V c 1 t :=
  (before_in V c 1 rfl (fun _ => rfl) (fun _ _ => rfl) (fun t => by rw [after_1]; rfl) t d).trans rfl
/-- The body leaves operand 2's block as it was. -/
theorem after_2 (c : Dev nD) (t : Fin cfg1.N) : (dats V 0 c).after 2 t = iblk V c 2 t := by dsimp only [dats]
/-- When the body runs, operand 2's buffer holds its block. -/
theorem before_2 (c : Dev nD) (t : Fin cfg1.N) (d) : (dats V 0 c).before 2 t d = iblk V c 2 t :=
  (before_in V c 2 rfl (fun _ => rfl) (fun _ _ => rfl) (fun t => by rw [after_2]; rfl) t d).trans rfl
/-- The body leaves operand 3's block as it was. -/
theorem after_3 (c : Dev nD) (t : Fin cfg1.N) : (dats V 0 c).after 3 t = iblk V c 3 t := by dsimp only [dats]
/-- When the body runs, operand 3's buffer holds its block. -/
theorem before_3 (c : Dev nD) (t : Fin cfg1.N) (d) : (dats V 0 c).before 3 t d = iblk V c 3 t :=
  (before_in V c 3 rfl (fun _ => rfl) (fun _ _ => rfl) (fun t => by rw [after_3]; rfl) t d).trans rfl
/-- The body leaves operand 4's block as it was. -/
theorem after_4 (c : Dev nD) (t : Fin cfg1.N) : (dats V 0 c).after 4 t = iblk V c 4 t := by dsimp only [dats]
/-- When the body runs, operand 4's buffer holds its block. -/
theorem before_4 (c : Dev nD) (t : Fin cfg1.N) (d) : (dats V 0 c).before 4 t d = iblk V c 4 t :=
  (before_in V c 4 rfl (fun _ => rfl) (fun _ _ => rfl) (fun t => by rw [after_4]; rfl) t d).trans rfl
/-- The body leaves operand 5's block as it was. -/
theorem after_5 (c : Dev nD) (t : Fin cfg1.N) : (dats V 0 c).after 5 t = iblk V c 5 t := by dsimp only [dats]
/-- When the body runs, operand 5's buffer holds its block. -/
theorem before_5 (c : Dev nD) (t : Fin cfg1.N) (d) : (dats V 0 c).before 5 t d = iblk V c 5 t :=
  (before_in V c 5 rfl (fun _ => rfl) (fun _ _ => rfl) (fun t => by rw [after_5]; rfl) t d).trans rfl
/-- The body leaves operand 6's block as it was. -/
theorem after_6 (c : Dev nD) (t : Fin cfg1.N) : (dats V 0 c).after 6 t = iblk V c 6 t := by dsimp only [dats]
/-- When the body runs, operand 6's buffer holds its block. -/
theorem before_6 (c : Dev nD) (t : Fin cfg1.N) (d) : (dats V 0 c).before 6 t d = iblk V c 6 t :=
  (before_in V c 6 rfl (fun _ => rfl) (fun _ _ => rfl) (fun t => by rw [after_6]; rfl) t d).trans rfl
/-- The body leaves operand 7's block as it was. -/
theorem after_7 (c : Dev nD) (t : Fin cfg1.N) : (dats V 0 c).after 7 t = iblk V c 7 t := by dsimp only [dats]
/-- When the body runs, operand 7's buffer holds its block. -/
theorem before_7 (c : Dev nD) (t : Fin cfg1.N) (d) : (dats V 0 c).before 7 t d = iblk V c 7 t :=
  (before_in V c 7 rfl (fun _ => rfl) (fun _ _ => rfl) (fun t => by rw [after_7]; rfl) t d).trans rfl
/-- The body leaves operand 8's block as it was. -/
theorem after_8 (c : Dev nD) (t : Fin cfg1.N) : (dats V 0 c).after 8 t = iblk V c 8 t := by dsimp only [dats]
/-- When the body runs, operand 8's buffer holds its block. -/
theorem before_8 (c : Dev nD) (t : Fin cfg1.N) (d) : (dats V 0 c).before 8 t d = iblk V c 8 t :=
  (before_in V c 8 rfl (fun _ => rfl) (fun _ _ => rfl) (fun t => by rw [after_8]; rfl) t d).trans rfl
/-- The body leaves operand 9's block as it was. -/
theorem after_9 (c : Dev nD) (t : Fin cfg1.N) : (dats V 0 c).after 9 t = iblk V c 9 t := by dsimp only [dats]
/-- When the body runs, operand 9's buffer holds its block. -/
theorem before_9 (c : Dev nD) (t : Fin cfg1.N) (d) : (dats V 0 c).before 9 t d = iblk V c 9 t :=
  (before_in V c 9 rfl (fun _ => rfl) (fun _ _ => rfl) (fun t => by rw [after_9]; rfl) t d).trans rfl
/-- The body leaves operand 10's block as it was. -/
theorem after_10 (c : Dev nD) (t : Fin cfg1.N) : (dats V 0 c).after 10 t = iblk V c 10 t := by dsimp only [dats]
/-- When the body runs, operand 10's buffer holds its block. -/
theorem before_10 (c : Dev nD) (t : Fin cfg1.N) (d) : (dats V 0 c).before 10 t d = iblk V c 10 t :=
  (before_in V c 10 rfl (fun _ => rfl) (fun _ _ => rfl) (fun t => by rw [after_10]; rfl) t d).trans rfl
/-- The body leaves operand 11's block as it was. -/
theorem after_11 (c : Dev nD) (t : Fin cfg1.N) : (dats V 0 c).after 11 t = iblk V c 11 t := by dsimp only [dats]
/-- When the body runs, operand 11's buffer holds its block. -/
theorem before_11 (c : Dev nD) (t : Fin cfg1.N) (d) : (dats V 0 c).before 11 t d = iblk V c 11 t :=
  (before_in V c 11 rfl (fun _ => rfl) (fun _ _ => rfl) (fun t => by rw [after_11]; rfl) t d).trans rfl
/-- The body leaves operand 12's block as it was. -/
theorem after_12 (c : Dev nD) (t : Fin cfg1.N) : (dats V 0 c).after 12 t = iblk V c 12 t := by dsimp only [dats]
/-- When the body runs, operand 12's buffer holds its block. -/
theorem before_12 (c : Dev nD) (t : Fin cfg1.N) (d) : (dats V 0 c).before 12 t d = iblk V c 12 t :=
  (before_in V c 12 rfl (fun _ => rfl) (fun _ _ => rfl) (fun t => by rw [after_12]; rfl) t d).trans rfl
/-- The body leaves operand 13's block as it was. -/
theorem after_13 (c : Dev nD) (t : Fin cfg1.N) : (dats V 0 c).after 13 t = iblk V c 13 t := by dsimp only [dats]
/-- When the body runs, operand 13's buffer holds its block. -/
theorem before_13 (c : Dev nD) (t : Fin cfg1.N) (d) : (dats V 0 c).before 13 t d = iblk V c 13 t :=
  (before_in V c 13 rfl (fun _ => rfl) (fun _ _ => rfl) (fun t => by rw [after_13]; rfl) t d).trans rfl
/-- The body leaves operand 14's block as it was. -/
theorem after_14 (c : Dev nD) (t : Fin cfg1.N) : (dats V 0 c).after 14 t = iblk V c 14 t := by dsimp only [dats]
/-- When the body runs, operand 14's buffer holds its block. -/
theorem before_14 (c : Dev nD) (t : Fin cfg1.N) (d) : (dats V 0 c).before 14 t d = iblk V c 14 t :=
  (before_in V c 14 rfl (fun _ => rfl) (fun _ _ => rfl) (fun t => by rw [after_14]; rfl) t d).trans rfl
/-- The body leaves operand 15's block as it was. -/
theorem after_15 (c : Dev nD) (t : Fin cfg1.N) : (dats V 0 c).after 15 t = iblk V c 15 t := by dsimp only [dats]
/-- When the body runs, operand 15's buffer holds its block. -/
theorem before_15 (c : Dev nD) (t : Fin cfg1.N) (d) : (dats V 0 c).before 15 t d = iblk V c 15 t :=
  (before_in V c 15 rfl (fun _ => rfl) (fun _ _ => rfl) (fun t => by rw [after_15]; rfl) t d).trans rfl
/-- The body leaves operand 16's block as it was. -/
theorem after_16 (c : Dev nD) (t : Fin cfg1.N) : (dats V 0 c).after 16 t = iblk V c 16 t := by dsimp only [dats]
/-- When the body runs, operand 16's buffer holds its block. -/
theorem before_16 (c : Dev nD) (t : Fin cfg1.N) (d) : (dats V 0 c).before 16 t d = iblk V c 16 t :=
  (before_in V c 16 rfl (fun _ => rfl) (fun _ _ => rfl) (fun t => by rw [after_16]; rfl) t d).trans rfl
/-- The body leaves the block's results. -/
theorem after_17 (c : Dev nD) (t : Fin cfg1.N) : (dats V 0 c).after 17 t = outAt V c t := by dsimp only [dats]

/-- The table's row at a point is the body as the pipeline calls it there. -/
theorem defs₀_row (t : Fin cfg1.N) : defs₀ (F := F) .tc cfg1.body (cfg1.bodyArgs t (cfg1.slots t)) = bodyAt1 t := rfl

set_option maxHeartbeats 2000000 in
/-- The body's obligation at every point. -/
theorem body_obligation (c : Dev nD) : BodyObligation (dats V 0 c) (defs₀ (F := F)) 𝒱₀ (none : HIx 1) Set.univ := fun t => by
  rw [bigSep_W1, bigSep_W1, defs₀_row]
  rw [show (dats V 0 c).Φ t.castSucc = iprop(emp) from rfl, show (dats V 0 c).Φ t.succ = iprop(emp) from rfl,
    show (dats V 0 c).owesAt none t.succ = (dats V 0 c).owesAt none t.castSucc from rfl]
  simp only [before_0, after_0, before_1, after_1, before_2, after_2, before_3, after_3, before_4, after_4, before_5, after_5, before_6, after_6,
    before_7, after_7, before_8, after_8, before_9, after_9, before_10, after_10, before_11, after_11, before_12, after_12, before_13, after_13,
    before_14, after_14, before_15, after_15, before_16, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩⟩
  iapply (body_run c (grid1.coords t) _ _ _ _ _ _ _ _ _ _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-! ## The call as a region of @main -/

/-- The region's configuration is a sound one. -/
abbrev adm : (p : Fin 1) → (pcfgs (F := F) p).Adm := fun p => (cfgs p).toPCfg_adm

/-- What the TensorCore owes beside the call: nothing, its recorded waits at or below the SparseCore call's level. -/
def idle (c : Dev nD) : sProp 𝕄 := iprop(∃ W, ⌜(K (F := F)).WBelow (T c) W 8⌝ ∗ owes (T c : Thread nD τ) (0 : CellTallies nD τ sig (HIx 1)) W)

/-- Every buffer after the call: the windows' arrays as the pipeline leaves them, the rest as it found them. -/
def Vend (c : Dev nD) : Valuation τ sig (Elt F) := Pipeline.afterRegion (dats V 0 c) (V c)

set_option backward.isDefEq.respectTransparency.types false in
/-- The call: entered holding the windows' arrays at `V`, left holding them at `Vend`. -/
def reg : Pipeline.RegionSeg (pcfgs (F := F)) adm (dats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(StableHlo.held (c : Thread nD τ) (Pipeline.arrRefs spec1) (V c) ∗ idle c)
  post c := iprop(StableHlo.held (c : Thread nD τ) (Pipeline.arrRefs spec1) (Vend V c) ∗ idle c)
  X c := iprop(emp)
  Y c := iprop(emp)
  Z c := iprop(emp)
  hentry c := by
    rw [← Pipeline.arrays_held (pcfgs (F := F)) adm (dats V) 0 launch1.toP c ((dats V 0 c).share_full fun _ => rfl) ((dats V 0 c).arrAt · 0) (V c) (fun w => A_eq V c w),
      Pipeline.prefHeld_of_none _ rfl]
    unfold idle
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (dats V 0 c).Φ 0 = iprop(emp) from rfl, Pipeline.prefHeld_of_none _ rfl]
    rw [scopedRest1_eq]
    iintro -
    iempintro
  hout c := by
    rw [show (dats V 0 c).Φ (Fin.last cfg1.N) = iprop(emp) from rfl, Pipeline.ownSems0_none, scopedRest1_eq]
    iintro -
    isplitr; · iempintro
    isplitr <;> iempintro
  hexit c := by
    rw [← Pipeline.arrays_held (pcfgs (F := F)) adm (dats V) 0 launch1.toP c ((dats V 0 c).share_full fun _ => rfl) ((dats V 0 c).arrAt · cfg1.N) (Vend V c)
      (fun w => (Pipeline.afterRegion_arr (dats V 0 c) (V c) launch1.win.arr_inj w).symm)]
    unfold idle
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.KernelIdeal.Region
-- ==== Proof.Run.lean ====
/-
  The program's run: the two lists of numbers flattened, the SparseCore call, the dense layers' operands laid out, the
  TensorCore call over them, its result flattened. Every run ends, with every semaphore back at zero and every buffer at
  `VEnd`, a function of the memory the run starts from.
-/
module

public import proofs.«01_k».proof.Proof.Call
public import proofs.«01_k».proof.Proof.Region
public import Idealize.ShloMosaic.Lib.Pipeline.Frame
public import Idealize.ShloMosaic.Lib.Pipeline.FrameTail

@[expose] public section

set_option maxRecDepth 16384

noncomputable section

namespace Cert.KernelIdeal.Run

open Cert.KernelIdeal Cert.KernelIdeal.Gen Cert.KernelIdeal.Tile Cert.KernelIdeal.Call

open Idealize.ShloMosaic
open Idealize.ShloMosaic.TcCoe
open Idealize.ShloMosaic.SparseCore (T)
open Idealize.ShloMosaic.SparseCore.Cfg (HIx)
open Idealize.ShloMosaic.StableHlo (held after seq seqK)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs)

variable {F : FTy → Type}
variable [FloatOps F] [Named F]

local notation "𝕄" => MT nD τ sig (HIx 1) (Elt F) ℕ UU ℕ

/-! ## The host's operations -/

/-- Before the SparseCore call: the two lists of numbers, flattened. -/
def ops₁ : List (HloOp τ sig (Elt F)) := [
    StableHlo.reshape main_arg0 main_v0 (rfl : (.i32 : EltTy) = .i32) shapeCasts_S16384x1_S16384,
    StableHlo.reshape main_arg3 main_v1 (rfl : (.i32 : EltTy) = .i32) shapeCasts_S16384x1_S16384]
/-- Between the calls: the biases laid out as rows, the small tables and the weights rounded, the columns cut in eight. -/
def ops₂ : List (HloOp τ sig (Elt F)) := [
    StableHlo.reshape main_arg12 main_v3 (rfl : (.f32 : EltTy) = .f32) shapeCasts_S256_S1x256,
    StableHlo.reshape main_arg14 main_v4 (rfl : (.f32 : EltTy) = .f32) shapeCasts_S128_S1x128,
    StableHlo.reshape main_arg16 main_v5 (rfl : (.f32 : EltTy) = .f32) shapeCasts_S64_S1x64,
    StableHlo.reshape main_arg18 main_v6 (rfl : (.f32 : EltTy) = .f32) shapeCasts_S1_S1x1,
    StableHlo.unary main_arg8 main_v7 ((truncf .bf16 · bitsLt_bf16_f32) : (⟨S100x64, .f32⟩ : BufTy).Contents (Elt F) → (⟨S100x64, .bf16⟩ : BufTy).Contents (Elt F)),
    StableHlo.unary main_arg9 main_v8 ((truncf .bf16 · bitsLt_bf16_f32) : (⟨S3x32, .f32⟩ : BufTy).Contents (Elt F) → (⟨S3x32, .bf16⟩ : BufTy).Contents (Elt F)),
    StableHlo.unary main_arg10 main_v9 ((truncf .bf16 · bitsLt_bf16_f32) : (⟨S1000x64, .f32⟩ : BufTy).Contents (Elt F) → (⟨S1000x64, .bf16⟩ : BufTy).Contents (Elt F)),
    StableHlo.unary main_arg11 main_v10 ((truncf .bf16 · bitsLt_bf16_f32) : (⟨S417x256, .f32⟩ : BufTy).Contents (Elt F) → (⟨S417x256, .bf16⟩ : BufTy).Contents (Elt F)),
    StableHlo.unary main_arg13 main_v11 ((truncf .bf16 · bitsLt_bf16_f32) : (⟨S256x128, .f32⟩ : BufTy).Contents (Elt F) → (⟨S256x128, .bf16⟩ : BufTy).Contents (Elt F)),
    StableHlo.unary main_arg15 main_v12 ((truncf .bf16 · bitsLt_bf16_f32) : (⟨S128x64, .f32⟩ : BufTy).Contents (Elt F) → (⟨S128x64, .bf16⟩ : BufTy).Contents (Elt F)),
    StableHlo.unary main_arg17 main_v13 ((truncf .bf16 · bitsLt_bf16_f32) : (⟨S64x1, .f32⟩ : BufTy).Contents (Elt F) → (⟨S64x1, .bf16⟩ : BufTy).Contents (Elt F)),
    StableHlo.reshape main_arg1 main_v14 (rfl : (.i32 : EltTy) = .i32) shapeCasts_S16384x1_S8x1x2048,
    StableHlo.reshape main_arg2 main_v15 (rfl : (.i32 : EltTy) = .i32) shapeCasts_S16384x1_S8x1x2048,
    StableHlo.reshape main_arg4 main_v16 (rfl : (.i32 : EltTy) = .i32) shapeCasts_S16384x1_S8x1x2048,
    StableHlo.reshape main_arg5 main_v17 (rfl : (.f32 : EltTy) = .f32) shapeCasts_S16384x1_S8x1x2048]
/-- After the TensorCore call: the result, flattened. -/
def ops₃ : List (HloOp τ sig (Elt F)) := [
    StableHlo.reshape main_v18 main_v19 (rfl : (.f32 : EltTy) = .f32) shapeCasts_S8x1x2048_S16384]

/-- The program as its host operations and its two calls. -/
theorem main_eq (d : Dev nD) : main (F := F) d
    = seq ops₁ >>= fun _ => sc.run d 0 >>= fun _ => seq ops₂ >>= fun _ =>
        (Prog.lift (.customCall (SparseCore.inner (Pipeline.entry 0)) ())) >>= fun _ => seq ops₃ >>= fun _ => pure ⟨⟩ := by
  simp only [StableHlo.seq_bind_seqK]
  rfl

/-! ## The buffers' contents along the run -/

variable (m : (ℓ : Loc nD τ sig) → Buf (Elt F) ℓ)

/-- At the start, -/
def V₀ (d : Dev nD) : Valuation τ sig (Elt F) := fun b => m (d, b)
/-- as the SparseCore call finds them, -/
def V₁ (d : Dev nD) : Valuation τ sig (Elt F) := after ops₁ (V₀ m d)
/-- as it leaves them, -/
def V₂ (d : Dev nD) : Valuation τ sig (Elt F) :=
  Function.update (Function.update (V₁ m d) (Proc.devRef .tc main_v2_0) (userRows (V₁ m) d)) (Proc.devRef .tc main_v2_1) (itemRows (V₁ m) d)
/-- as the TensorCore call finds them, -/
def V₃ (d : Dev nD) : Valuation τ sig (Elt F) := after ops₂ (V₂ m d)
/-- as it leaves them, -/
def V₄ (d : Dev nD) : Valuation τ sig (Elt F) := Region.Vend (V₃ m) d
/-- and at the end. -/
def VEnd (d : Dev nD) : Valuation τ sig (Elt F) := after ops₃ (V₄ m d)

/-- The operations before the SparseCore call touch the TensorCore's own buffers only, -/
theorem ops₁_in : ∀ op ∈ ops₁ (F := F), op.bufs ⊆ ucRefs τ sig := fun op h => by
  have H : (ops₁ (F := F)).Forall fun op => op.bufs ⊆ StableHlo.tcRefs τ sig := by
    simp only [ops₁, List.Forall, StableHlo.reshape_bufs_sub, StableHlo.unary_bufs_sub, and_self]
  exact Pipeline.sub_ucRefs op (List.forall_iff_forall_mem.mp H op h)
/-- and make none. -/
theorem ops₁_fresh : ∀ op ∈ ops₁ (F := F), op.fresh = ∅ := fun op h => by
  have H : (ops₁ (F := F)).Forall fun op => op.fresh = ∅ := by
    simp only [ops₁, List.Forall]
    repeat' constructor
  exact List.forall_iff_forall_mem.mp H op h
/-- The operations between the calls touch the TensorCore's own buffers only, -/
theorem ops₂_in : ∀ op ∈ ops₂ (F := F), op.bufs ⊆ ucRefs τ sig := fun op h => by
  have H : (ops₂ (F := F)).Forall fun op => op.bufs ⊆ StableHlo.tcRefs τ sig := by
    simp only [ops₂, List.Forall, StableHlo.reshape_bufs_sub, StableHlo.unary_bufs_sub, and_self]
  exact Pipeline.sub_ucRefs op (List.forall_iff_forall_mem.mp H op h)
/-- and make none. -/
theorem ops₂_fresh : ∀ op ∈ ops₂ (F := F), op.fresh = ∅ := fun op h => by
  have H : (ops₂ (F := F)).Forall fun op => op.fresh = ∅ := by
    simp only [ops₂, List.Forall]
    repeat' constructor
  exact List.forall_iff_forall_mem.mp H op h
/-- The operations after the TensorCore call touch the TensorCore's own buffers only, -/
theorem ops₃_in : ∀ op ∈ ops₃ (F := F), op.bufs ⊆ ucRefs τ sig := fun op h => by
  have H : (ops₃ (F := F)).Forall fun op => op.bufs ⊆ StableHlo.tcRefs τ sig := by
    simp only [ops₃, List.Forall, StableHlo.reshape_bufs_sub, StableHlo.unary_bufs_sub, and_self]
  exact Pipeline.sub_ucRefs op (List.forall_iff_forall_mem.mp H op h)
/-- and make none. -/
theorem ops₃_fresh : ∀ op ∈ ops₃ (F := F), op.fresh = ∅ := fun op h => by
  have H : (ops₃ (F := F)).Forall fun op => op.fresh = ∅ := by
    simp only [ops₃, List.Forall]
    repeat' constructor
  exact List.forall_iff_forall_mem.mp H op h

/-- The SparseCore call's six arrays. -/
def six₀ : Finset (DevRef τ sig) := {Proc.devRef .tc main_v0, Proc.devRef .tc main_v1, Proc.devRef .tc main_arg6, Proc.devRef .tc main_arg7, Proc.devRef .tc main_v2_0,
  Proc.devRef .tc main_v2_1}

/-- The call's six arrays are buffers of the device. -/
theorem six₀_sub : six₀ ⊆ ucRefs τ sig := by decide +kernel
/-- The region's arrays are buffers of the device. -/
theorem arrays_sub : Pipeline.arrRefs spec1 ⊆ ucRefs τ sig := Pipeline.arrRefs_sub_ucRefs spec1 (by decide)

/-- Six parts, the first four put together. -/
theorem regroup {A B C E G H : sProp 𝕄} : iprop(A ∗ B ∗ C ∗ E ∗ G ∗ H) = iprop((A ∗ B ∗ C ∗ E) ∗ G ∗ H) := by
  have h₁ : iprop(A ∗ B ∗ C ∗ E ∗ G ∗ H) ⊢ iprop((A ∗ B ∗ C ∗ E) ∗ G ∗ H) := by
    iintro ⟨H0, H1, H2, H3, H4, H5⟩
    isplitl [H0 H1 H2 H3]
    · isplitl [H0]; · iexact H0
      isplitl [H1]; · iexact H1
      isplitl [H2]; · iexact H2
      iexact H3
    isplitl [H4]; · iexact H4
    iexact H5
  have h₂ : iprop((A ∗ B ∗ C ∗ E) ∗ G ∗ H) ⊢ iprop(A ∗ B ∗ C ∗ E ∗ G ∗ H) := by
    iintro ⟨⟨H0, H1, H2, H3⟩, H4, H5⟩
    isplitl [H0]; · iexact H0
    isplitl [H1]; · iexact H1
    isplitl [H2]; · iexact H2
    isplitl [H3]; · iexact H3
    isplitl [H4]; · iexact H4
    iexact H5
  exact BI.Entails.antisymm h₁ h₂

/-- The six arrays held at a valuation. -/
theorem six₀_held (d : Dev nD) (V : Valuation τ sig (Elt F)) : (held (T d) six₀ V : sProp 𝕄)
    = six d (V (Proc.devRef .tc main_v0)) (V (Proc.devRef .tc main_v1)) (V (Proc.devRef .tc main_arg6)) (V (Proc.devRef .tc main_arg7))
        (V (Proc.devRef .tc main_v2_0)) (V (Proc.devRef .tc main_v2_1)) := by
  unfold held six₀ six
  rw [SparseCore.bigSep_insert' (by decide), SparseCore.bigSep_insert' (by decide), SparseCore.bigSep_insert' (by decide), SparseCore.bigSep_insert' (by decide),
    SparseCore.bigSep_insert' (by decide), bigSep_singleton]
  exact regroup

/-- After the SparseCore call the users' rows are the picked ones. -/
theorem V₂_uo (d : Dev nD) : V₂ m d (Proc.devRef .tc main_v2_0) = userRows (V₁ m) d := by
  unfold V₂; rw [Function.update_of_ne (by decide), Function.update_self]
/-- After the SparseCore call the items' rows are the picked ones. -/
theorem V₂_io (d : Dev nD) : V₂ m d (Proc.devRef .tc main_v2_1) = itemRows (V₁ m) d := by
  unfold V₂; rw [Function.update_self]
/-- The SparseCore call changes nothing else. -/
theorem V₂_of_ne (d : Dev nD) {b : DevRef τ sig} (h0 : b ≠ Proc.devRef .tc main_v2_0) (h1 : b ≠ Proc.devRef .tc main_v2_1) : V₂ m d b = V₁ m d b := by
  unfold V₂; rw [Function.update_of_ne h1, Function.update_of_ne h0]

/-- The call changes nothing but its two results. -/
theorem rest_held (d : Dev nD) : (held (T d) (ucRefs τ sig \ six₀) (V₁ m d) : sProp 𝕄) = held (T d) (ucRefs τ sig \ six₀) (V₂ m d) :=
  StableHlo.held_congr _ fun b hb => (V₂_of_ne m d
    (fun h => (Finset.mem_sdiff.mp hb).2 (by rw [h]; decide)) (fun h => (Finset.mem_sdiff.mp hb).2 (by rw [h]; decide))).symm

/-- The six arrays as the call leaves them. -/
theorem six_after (d : Dev nD) : (held (T d) six₀ (V₂ m d) : sProp 𝕄)
    = six d (at_ui (V₁ m) d) (at_ii (V₁ m) d) (at_ut (V₁ m) d) (at_it (V₁ m) d) (userRows (V₁ m) d) (itemRows (V₁ m) d) := by
  rw [six₀_held, V₂_uo, V₂_io, V₂_of_ne m d (b := Proc.devRef .tc main_v0) (by decide) (by decide), V₂_of_ne m d (b := Proc.devRef .tc main_v1) (by decide) (by decide),
    V₂_of_ne m d (b := Proc.devRef .tc main_arg6) (by decide) (by decide), V₂_of_ne m d (b := Proc.devRef .tc main_arg7) (by decide) (by decide)]

/-- The TensorCore call changes nothing but its windows' arrays. -/
theorem region_rest (d : Dev nD) : (held (T d) (ucRefs τ sig \ Pipeline.arrRefs spec1) (V₃ m d) : sProp 𝕄)
    = held (T d) (ucRefs τ sig \ Pipeline.arrRefs spec1) (V₄ m d) :=
  StableHlo.held_congr _ fun b hb => by
    unfold V₄ Region.Vend Pipeline.afterRegion
    rw [dif_neg]
    rintro ⟨w, hw⟩
    exact (Finset.mem_sdiff.mp hb).2 (hw ▸ Finset.mem_map.mpr ⟨_, Finset.mem_image.mpr ⟨w, Finset.mem_univ w, rfl⟩, rfl⟩)

/-! ## The launch element of the ghost state -/

/-- The pipeline, on every device, as the TensorCore call's rules read it. -/
abbrev pins : Fin 1 → Pipeline.Cfg sig Λ₀ := Pipeline.pin (pcfgs (F := F)) Region.adm
/-- The region's rounds lie in cells apart. -/
theorem pins_inj : Function.Injective (Pipeline.cellOf (nD := nD) (τ := τ) (pins (F := F))) := cellOf_inj

/-- The ghost state at the start. -/
def u₀ : UU := (initOf (K (F := F)).hsCells (K (F := F)).hsToks, (initOf (Pipeline.cells (pins (F := F)) pins_inj) (Pipeline.launchToks (pins (F := F)) pins_inj), 1))

/-- What the launch deals a device's TensorCore: its pipeline's ghost state. -/
def G (d : Dev nD) : sProp 𝕄 := iprop(Pipeline.cellsGhost (pins (F := F)) EP 0 d ∗ Pipeline.toksInit (pins (F := F)) EP 0 d)

/-- The ghost state at the start holds what each part of the program starts with. -/
theorem deals : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (V₁ m)).x q thr) := by
  have hemp : (bigSep Finset.univ fun thr : Thread nD τ => bigSep Finset.univ fun q : Fin 1 => (P (F := F) (V₁ m)).x q thr) = (iprop(emp) : sProp 𝕄) :=
    (bigSep_congr fun _ _ => bigSep_univ_of_subsingleton (0 : Fin 1)).trans (bigSep_emp_const _)
  have hG : (bigSep Finset.univ fun d : Dev nD => G (F := F) d)
      = iprop((bigSep Finset.univ fun c : Dev nD => bigSep Finset.univ fun p => Pipeline.cellsGhost (pins (F := F)) EP p c)
          ∗ (bigSep Finset.univ fun c : Dev nD => bigSep Finset.univ fun p => (Pipeline.toksInit (pins (F := F)) EP p c : sProp 𝕄))) := by
    unfold G
    rw [bigSep_sep']
    congr 1
    · exact bigSep_congr fun d _ => (bigSep_univ_of_subsingleton (0 : Fin 1) (Φ := fun p => Pipeline.cellsGhost (pins (F := F)) EP p d)).symm
    · exact bigSep_congr fun d _ => (bigSep_univ_of_subsingleton (0 : Fin 1) (Φ := fun p => (Pipeline.toksInit (pins (F := F)) EP p d : sProp 𝕄))).symm
  rw [hemp, hG]
  unfold u₀
  iintro Hu
  ihave H := (ownU_pair (initOf (K (F := F)).hsCells (K (F := F)).hsToks) ((initOf (Pipeline.cells (pins (F := F)) pins_inj) (Pipeline.launchToks (pins (F := F)) pins_inj), (1 : Counters)))) $$ Hu
  icases H with ⟨HH, HR⟩
  ihave H := (own_pair_emb (embR : Emb (UR sig nD τ × Counters) 𝕄) (initOf (Pipeline.cells (pins (F := F)) pins_inj) (Pipeline.launchToks (pins (F := F)) pins_inj)) (1 : Counters)) $$ HR
  icases H with ⟨HP, -⟩
  ihave HP := (show (BI.own (((Emb.inl : Emb (UR sig nD τ) (UR sig nD τ × Counters)).trans (embR : Emb (UR sig nD τ × Counters) 𝕄))
      (initOf (Pipeline.cells (pins (F := F)) pins_inj) (Pipeline.launchToks (pins (F := F)) pins_inj))) : sProp 𝕄)
      ⊢ BI.own (EP (initOf (Pipeline.cells (pins (F := F)) pins_inj) (Pipeline.launchToks (pins (F := F)) pins_inj))) from Entails.of_eq rfl) $$ HP
  imod (Pipeline.fund_ghost (pins (F := F)) EP pins_inj) $$ HP with HG
  imodintro
  isplitl [HH]; · iexact HH
  isplitl [HG]; · iexact HG
  iempintro

/-! ## @main -/

/-- What a device's TensorCore ends with: every buffer of its own, at the end's contents. -/
abbrev FIN (d : Dev nD) : sProp 𝕄 := held (T d) (ucRefs τ sig) (VEnd m d)

variable (ρ : Dev nD → PrngReg)

/-- The TensorCore's own buffers at the launch. -/
theorem launch_held (d : Dev nD) : (unscopedBufs d (fun b => m ((SparseCore.T d).loc b)) : sProp 𝕄) = held (SparseCore.T d) (ucRefs τ sig) (V₀ m d) :=
  Pipeline.unscopedBufs_held (Ix := HIx 1) (Name := ℕ) (U := UU) (Lvl := ℕ) d (V₀ m d)

/-- The TensorCore's state after its only SparseCore call: it owes nothing. -/
theorem tcSt_one (d : Dev nD) : ((K (F := F)).tcSt EH d 1 : sProp 𝕄)
    = iprop(Region.idle d ∗ (atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))) := by
  unfold SparseCore.Cfg.tcSt Region.idle
  rw [(K (F := F)).Otc_end d (le_refl 1), show 8 * SparseCore.Cfg.Blocks.fst 1 1 1 = 8 from by decide]

set_option backward.isDefEq.respectTransparency.types false in
/-- @main on a device's TensorCore. -/
theorem main_runs [∀ e, Nonempty (Elt F e)] (κ : GSem nD τ sig → ℕ) (d : Dev nD) :
    iprop((K (F := F)).ctx EH (P (V₁ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hh, Hts, -⟩, HG⟩
  iapply (StableHlo.wp_seq 𝒱 none Set.univ d (ucRefs τ sig) _ ops₁ ops₁_in ops₁_fresh (V₀ m d)) $$ [Hb Hh]
  · isplitl [Hb]; · iexact Hb
    iexact Hh
  iintro ⟨Hb, Hh⟩
  rw [show after ops₁ (V₀ m d) = V₁ m d from rfl]
  ihave Hh := (Entails.of_eq (StableHlo.held_sub_split (SparseCore.T d) six₀_sub (V₁ m d))) $$ Hh
  icases Hh with ⟨H6, Hr⟩
  rw [wp_bind]
  iapply ((K (F := F)).wp_run (D (F := F)) 𝒱 (EH := EH) (P := P (V₁ m)) κ d 0)
  isplitr; · iexact Hctx
  isplitl [Hst]; · iexact Hst
  isplitl [H6]
  · rw [takes]; iapply (Entails.of_eq (six₀_held d (V₁ m d))); iexact H6
  iintro ⟨Hst, H6⟩
  rw [show ((0 : Fin 1).val + 1) = 1 from rfl]
  ihave H6 := (Entails.of_eq ((brings (V₁ m) d).trans (six_after m d).symm)) $$ H6
  ihave Hr := (Entails.of_eq (rest_held m d)) $$ Hr
  ihave Hh := (Entails.of_eq (StableHlo.held_sub_split (SparseCore.T d) six₀_sub (V₂ m d)).symm) $$ [H6 Hr]
  · isplitl [H6]; · iexact H6
    iexact Hr
  iapply (StableHlo.wp_seq 𝒱 none Set.univ d (ucRefs τ sig) _ ops₂ ops₂_in ops₂_fresh (V₂ m d)) $$ [Hb Hh]
  · isplitl [Hb]; · iexact Hb
    iexact Hh
  iintro ⟨Hb, Hh⟩
  rw [show after ops₂ (V₂ m d) = V₃ m d from rfl]
  ihave Hh := (Entails.of_eq (StableHlo.held_sub_split (SparseCore.T d) arrays_sub (V₃ m d))) $$ Hh
  icases Hh with ⟨Ha, Hr⟩
  ihave Hr := (Entails.of_eq (region_rest m d)) $$ Hr
  ihave Hst := (Entails.of_eq (tcSt_one d)) $$ Hst
  icases Hst with ⟨HO, Hat⟩
  unfold G
  icases HG with ⟨HG, Htk⟩
  rw [wp_bind]
  iapply ((K (F := F)).wp_liftProg (D (F := F)) 𝒱 (SparseCore.T d) Set.univ none (.op (.customCall (Pipeline.entry 0) ()) .ret) _)
  iapply (Pipeline.RegionSeg.wp pcfgs Region.adm (Region.dats (V₃ m)) none pins_inj EP defs₀ 𝒱₀ (K (F := F)).L (K (F := F)).lev
    (Region.reg (V₃ m)) d none (fun _ h => by cases h) .ret _)
  isplitr [Hb Ha HO HG Htk]
  rotate_left
  · isplitl [Hb]; · iexact Hb
    isplitl [Ha HO]
    · rw [show (Region.reg (V₃ m)).pre d = iprop(held (SparseCore.T d) (Pipeline.arrRefs spec1) (V₃ m d) ∗ Region.idle d) from rfl]
      isplitl [Ha]; · iexact Ha
      iexact HO
    isplitr [HG Htk]
    · iapply (SparseCore.Cfg.ctx_levAts κ); iexact Hctx
    isplitl [HG]; · iexact HG
    iexact Htk
  rw [show (Region.reg (V₃ m)).post d = iprop(held (SparseCore.T d) (Pipeline.arrRefs spec1) (V₄ m d) ∗ Region.idle d) from rfl]
  iintro ⟨Hb, Ha, HO⟩
  rw [wp_ret]
  imodintro
  ihave Hh := (Entails.of_eq (StableHlo.held_sub_split (SparseCore.T d) arrays_sub (V₄ m d)).symm) $$ [Ha Hr]
  · isplitl [Ha]; · iexact Ha
    iexact Hr
  iapply (StableHlo.wp_seq 𝒱 none Set.univ d (ucRefs τ sig) _ ops₃ ops₃_in ops₃_fresh (V₄ m d)) $$ [Hb Hh]
  · isplitl [Hb]; · iexact Hb
    iexact Hh
  iintro ⟨Hb, Hh⟩
  rw [show after ops₃ (V₄ m d) = VEnd m d from rfl]
  rw [wp_pure]
  imodintro
  isplitl [HO Hat]
  · iapply (Entails.of_eq (tcSt_one d).symm)
    isplitl [HO]; · iexact HO
    iexact Hat
  isplitl [Hh]; · iexact Hh
  isplitl [Hb]; · iexact Hb
  iexact Hts

/-- What the end says of a device's memory: its TensorCore's buffers are at the end's contents. -/
def ended (d : Dev nD) (s' : Phys nD τ sig (Elt F)) : Prop := ∀ b ∈ ucRefs τ sig, s'.mem.mem (d, b) = VEnd m d b

/-- What a device holds at its end says what its memory holds. -/
theorem FIN_ended (d : Dev nD) (s' : Phys nD τ sig (Elt F)) : iprop(FIN m d ∗ SI s') ⊢ (⌜ended m d s'⌝ : sProp 𝕄) := by
  have h : iprop(SI s' ∗ FIN m d) ⊢ (⌜ended m d s'⌝ : sProp 𝕄) := SI_pointsTo_bufs_agree (ucRefs τ sig)
  iintro ⟨HF, HS⟩
  iapply h
  isplitl [HS]; · iexact HS
  iexact HF

/-- THE RUN: where the lists name rows of their tables, every run ends, with every semaphore back at zero and the
    TensorCores' buffers at `VEnd`. -/
theorem runs [∀ e, Nonempty (Elt F e)] (hU : Named_rows (V₁ m)) :
    θ_run (defs (F := F)) (threads (F := F)) ⟨m, fun _ => 0, ρ⟩ fun r =>
      (∀ d : Dev nD, ∀ b ∈ ucRefs τ sig, r.2.mem (d, b) = VEnd m d b) ∧ r.2.sem = fun _ => 0 :=
  SparseCore.Cfg.θ_run_sc_quiescent (K := K (F := F)) (D := D (F := F)) (𝒱 := 𝒱) (EH := EH) (P := P (V₁ m)) (A := ∅)
    facts v₀ (fun q hq => match q with | 0 => nomatch hq) (fun q _ => match q with | 0 => tile_runs (V₁ m) hU)
    (fun q _ => match q with | 0 => SparseCore.Cfg.VecSplit.of_plain (vec_split (V₁ m)))
    m ρ main G (FIN m) u₀ (sep_elim_left.trans (deals m)) (main_runs m ρ) (ended m) (FIN_ended m)
    (fun r => (∀ d : Dev nD, ∀ b ∈ ucRefs τ sig, r.2.mem (d, b) = VEnd m d b) ∧ r.2.sem = fun _ => 0) (fun _ h hz => ⟨h, hz⟩)

end Cert.KernelIdeal.Run
-- ==== Proof.Ends.lean ====
/-
  What a run leaves: the arguments as they were, and every semaphore at zero; and what the precondition says of the lists of
  row numbers that the SparseCore call reads.
-/
module

public import proofs.«01_k».proof.Proof.Run
public import proofs.«01_k».proof.Proof.Ranges

@[expose] public section

set_option maxRecDepth 16384

noncomputable section

namespace Cert.KernelIdeal.Ends

open Cert.KernelIdeal Cert.KernelIdeal.Gen Cert.KernelIdeal.Call Cert.KernelIdeal.Run

open Idealize.ShloMosaic
open Idealize.ShloMosaic.TcCoe
open Idealize.ShloMosaic.StableHlo (after)
open Idealize.ShloMosaic.Pipeline (ucRefs)
open Idealize.SL.Sem

variable {F : FTy → Type}
variable [FloatOps F] [Named F]
variable (m : (ℓ : Loc nD τ sig) → Buf (Elt F) ℓ)

/-- Every buffer that a host operation or a call writes. -/
def touched : List (Ref sig .tc) := [main_v0, main_v1, main_v2_0, main_v2_1, main_v3, main_v4, main_v5, main_v6, main_v7, main_v8, main_v9, main_v10,
  main_v11, main_v12, main_v13, main_v14, main_v15, main_v16, main_v17, main_v18, main_v19]

/-- The TensorCore call's arrays are among these. -/
theorem arrays_touched : ∀ w, Pipeline.arrRef spec1 w ∈ touched := by decide

/-- A buffer outside the list is none of those in it. -/
theorem apart {r y : Ref sig .tc} (hr : r ∉ touched) (hy : y ∈ touched) : (Proc.devRef .tc r : DevRef τ sig) ≠ Proc.devRef .tc y :=
  fun h => hr (Proc.devRef_injective .tc h ▸ hy)

/-- The operations before the SparseCore call write the two flattened lists only, -/
theorem kept₁ (V : Valuation τ sig (Elt F)) {r : Ref sig .tc} (hr : r ∉ [main_v0, main_v1]) : after ops₁ V (Proc.devRef .tc r) = V (Proc.devRef .tc r) :=
  StableHlo.after_of_writes_sub ops₁ V (StableHlo.forall_writes_sub_of_map rfl) hr
/-- those between the calls the TensorCore call's operands only, -/
theorem kept₂ (V : Valuation τ sig (Elt F)) {r : Ref sig .tc}
    (hr : r ∉ [main_v3, main_v4, main_v5, main_v6, main_v7, main_v8, main_v9, main_v10, main_v11, main_v12, main_v13, main_v14, main_v15, main_v16, main_v17]) :
    after ops₂ V (Proc.devRef .tc r) = V (Proc.devRef .tc r) :=
  StableHlo.after_of_writes_sub ops₂ V (StableHlo.forall_writes_sub_of_map rfl) hr
/-- and the last the result only. -/
theorem kept₃ (V : Valuation τ sig (Elt F)) {r : Ref sig .tc} (hr : r ∉ [main_v19]) : after ops₃ V (Proc.devRef .tc r) = V (Proc.devRef .tc r) :=
  StableHlo.after_of_writes_sub ops₃ V (StableHlo.forall_writes_sub_of_map rfl) hr

/-- A buffer that nothing writes holds at the TensorCore call what it held at the launch. -/
theorem kept_call (d : Dev nD) {r : Ref sig .tc} (hr : r ∉ touched) : V₂ m d (Proc.devRef .tc r) = m (d, Proc.devRef .tc r) := by
  rw [V₂_of_ne m d (apart hr (by decide)) (apart hr (by decide))]
  exact kept₁ _ (fun h => hr ((by decide : ∀ x ∈ [main_v0, main_v1], x ∈ touched) r h))

/-- A buffer that nothing writes ends as it was. -/
theorem kept (d : Dev nD) {r : Ref sig .tc} (hr : r ∉ touched) : VEnd m d (Proc.devRef .tc r) = m (d, Proc.devRef .tc r) := by
  unfold VEnd
  rw [kept₃ _ (fun h => hr ((by decide : ∀ x ∈ [main_v19], x ∈ touched) r h))]
  unfold V₄ Region.Vend
  refine (Pipeline.afterRegion_of_not_arr (Region.dats (V₃ m) 0 d) (V₃ m d) (b := r) fun w h => hr ((show r = Pipeline.arrRef spec1 w from h) ▸ arrays_touched w)).trans ?_
  unfold V₃
  rw [kept₂ _ (fun h => hr ((by decide : ∀ x ∈ [main_v3, main_v4, main_v5, main_v6, main_v7, main_v8, main_v9, main_v10, main_v11, main_v12, main_v13,
    main_v14, main_v15, main_v16, main_v17], x ∈ touched) r h)), kept_call m d hr]

/-- The list of user numbers as the SparseCore call finds it: the argument, flattened. -/
theorem users (d : Dev nD) : V₁ m d (Proc.devRef .tc main_v0) = shapeCast S16384 (m (d, Proc.devRef .tc main_arg0) : IVec S16384x1 32) shapeCasts_S16384x1_S16384 := by
  unfold V₁ ops₁
  rw [StableHlo.after_cons, StableHlo.after_cons, StableHlo.after_nil, StableHlo.reshape_result_ne (h := by decide)]
  exact StableHlo.reshape_result _ _ _ _ _ _ _
/-- The list of item numbers as the SparseCore call finds it: the argument, flattened. -/
theorem items (d : Dev nD) : V₁ m d (Proc.devRef .tc main_v1) = shapeCast S16384 (m (d, Proc.devRef .tc main_arg3) : IVec S16384x1 32) shapeCasts_S16384x1_S16384 := by
  unfold V₁ ops₁
  rw [StableHlo.after_cons, StableHlo.after_cons, StableHlo.after_nil]
  refine (StableHlo.reshape_result _ _ _ _ _ _ _).trans ?_
  rw [StableHlo.reshape_result_ne (h := by decide)]
  rfl

/-- Where every number names a row, so do the flattened lists. -/
theorem rows_named (h : ∀ d : Dev nD, Ranges.InRange (m (d, Proc.devRef .tc main_arg0)) (m (d, Proc.devRef .tc main_arg1)) (m (d, Proc.devRef .tc main_arg2))
    (m (d, Proc.devRef .tc main_arg3)) (m (d, Proc.devRef .tc main_arg4))) : Named_rows (V₁ m) := fun d =>
  ⟨fun j => by rw [show at_ui (V₁ m) d = _ from users m d]; exact (h d).user _, fun j => by rw [show at_ii (V₁ m) d = _ from items m d]; exact (h d).item _⟩

/-- THE RUN, READ BACK: the arguments as they were, the result at its value, every semaphore at zero. -/
theorem ends [∀ e, Nonempty (Elt F e)] (ρ : Dev nD → PrngReg) (hU : Named_rows (V₁ m)) :
    θ_run (defs (F := F)) (threads (F := F)) ⟨m, fun _ => 0, ρ⟩ fun r =>
      ((∀ d : Dev nD, ∀ b : Ref sig .tc, (Proc.devRef (τ := τ) .tc b).isScoped = false → b ∉ touched → r.2.mem (d, Proc.devRef .tc b) = m (d, Proc.devRef .tc b))
        ∧ ∀ d : Dev nD, r.2.mem (d, Proc.devRef .tc main_v19) = VEnd m d (Proc.devRef .tc main_v19)) ∧ r.2.sem = fun _ => 0 :=
  (θ_run _ _ _).mono (fun _ h => ⟨⟨fun d b hb ht => (h.1 d _ (Pipeline.devRef_mem_ucRefs hb)).trans (kept m d ht),
    fun d => h.1 d _ (Pipeline.devRef_mem_ucRefs rfl)⟩, h.2⟩) (runs m ρ hU)

end Cert.KernelIdeal.Ends
-- ==== Proof.Tower.lean ====
/-
  The recommender tower at one row, over the extended reals, as a plain formula: what both programs compute. With it the
  two facts of arithmetic in which the programs differ: a one-hot row times a table is a row of the table, and a thousandth of a
  price is the price divided by a thousand.
-/
module

public import Idealize.ShloMosaic.Lib.Pointwise
public import Idealize.ShloMosaic.Lib.WordCmp
public import Mathlib.Tactic.NormNum

@[expose] public section

set_option maxRecDepth 16384

noncomputable section

namespace Cert.Tower

open Idealize.ShloMosaic

/-- The row of a table of `n` that a number names. -/
def row (n : Nat) [NeZero n] (w : BitVec 32) : Fin n := Fin.ofNat n w.toNat

/-- A number below `n` names the row it counts to. -/
theorem row_val (n : Nat) [NeZero n] {w : BitVec 32} (h : w.toNat < n) : (row n w).val = w.toNat := Nat.mod_eq_of_lt h

/-- The first layer's products: the six features against the rows of the weights that are theirs. -/
def first (u i : Fin 128 → EReal) (a : Fin 64 → EReal) (g : Fin 32 → EReal) (c : Fin 64 → EReal) (p : EReal)
    (W : (⟨2, ![417, 256]⟩ : Shape).Idx → EReal) (j : Fin 256) : EReal :=
  ∑ x : Fin 128, u x * W (ix2 ⟨x.val, by omega⟩ j) + ∑ x : Fin 128, i x * W (ix2 ⟨128 + x.val, by omega⟩ j)
    + ∑ x : Fin 64, a x * W (ix2 ⟨256 + x.val, by omega⟩ j) + ∑ x : Fin 32, g x * W (ix2 ⟨320 + x.val, by omega⟩ j)
    + ∑ x : Fin 64, c x * W (ix2 ⟨352 + x.val, by omega⟩ j) + p * W (ix2 416 j)

/-- The rest of the tower: three rectified layers and the last. -/
def rest (h b₁ : Fin 256 → EReal) (W₂ : (⟨2, ![256, 128]⟩ : Shape).Idx → EReal) (b₂ : Fin 128 → EReal)
    (W₃ : (⟨2, ![128, 64]⟩ : Shape).Idx → EReal) (b₃ : Fin 64 → EReal) (W₄ : (⟨2, ![64, 1]⟩ : Shape).Idx → EReal) (b₄ : EReal) : EReal :=
  ∑ z : Fin 64, max (∑ y : Fin 128, max (∑ x : Fin 256, max (h x + b₁ x) 0 * W₂ (ix2 x y) + b₂ y) 0 * W₃ (ix2 y z) + b₃ z) 0 * W₄ (ix2 z 0) + b₄

/-- Two towers over first layers that agree. -/
theorem rest_congr {h h' b₁ : Fin 256 → EReal} {W₂ : (⟨2, ![256, 128]⟩ : Shape).Idx → EReal} {b₂ : Fin 128 → EReal}
    {W₃ : (⟨2, ![128, 64]⟩ : Shape).Idx → EReal} {b₃ : Fin 64 → EReal} {W₄ : (⟨2, ![64, 1]⟩ : Shape).Idx → EReal} {b₄ : EReal} (e : ∀ x, h x = h' x) :
    rest h b₁ W₂ b₂ W₃ b₃ W₄ b₄ = rest h' b₁ W₂ b₂ W₃ b₃ W₄ b₄ := by
  rw [funext e]

/-- A thousandth. -/
def thousandth (p : EReal) : EReal := p * ((1 / 1000 : ℝ) : EReal)

/-- A one-hot row, made by comparing each place with a number below the row's length, times a table: the table's row there. -/
theorem one_hot {n : Nat} [NeZero n] (hn : n ≤ 2 ^ 32) {w : BitVec 32} (hw : w.toNat < n) (f : Fin n → EReal) :
    ∑ r : Fin n, FloatOps.sitofp (F := Ideal) FTy.f32 (BitVec.setWidth 32 (IntOp.cmpi CmpIPredicate.eq (BitVec.ofNat 32 r.val) w)) * f r = f (row n w) := by
  rw [Finset.sum_eq_single (row n w)]
  · have e : BitVec.ofNat 32 (row n w).val = w := by rw [row_val n hw]; exact BitVec.ofNat_toNat 32 w |>.trans (BitVec.setWidth_eq w)
    rw [e, WordCmp.cmpi_eq_eq, decide_eq_true rfl]
    show ((((BitVec.setWidth 32 (BitVec.ofBool true)).toInt : ℤ) : ℝ) : EReal) * _ = _
    rw [show (BitVec.setWidth 32 (BitVec.ofBool true)).toInt = 1 by decide]
    simp
  · intro r _ hr
    have e : ¬ BitVec.ofNat 32 r.val = w := fun h => hr (Fin.ext (by
      rw [row_val n hw, ← h, BitVec.toNat_ofNat, Nat.mod_eq_of_lt (lt_of_lt_of_le r.isLt hn)]))
    rw [WordCmp.cmpi_eq_eq, decide_eq_false e]
    show ((((BitVec.setWidth 32 (BitVec.ofBool false)).toInt : ℤ) : ℝ) : EReal) * _ = _
    rw [show (BitVec.setWidth 32 (BitVec.ofBool false)).toInt = 0 by decide]
    simp
  · intro h; exact absurd (Finset.mem_univ _) h

/-- The binary32 word 0x447A0000 is one thousand. -/
theorem thousand : Ideal.ofBits .f32 0x447A0000#32 = ((1000 : ℝ) : EReal) := by
  simp [Ideal.ofBits, Ideal.ieee, -EReal.coe_mul]; norm_num

/-- A price divided by a thousand is a thousandth of it. -/
theorem div_thousand (p : EReal) : Ideal.div p (Ideal.ofBits .f32 0x447A0000#32) = thousandth p := by
  rw [thousandth, thousand, Ideal.div, if_neg (by exact_mod_cast (by norm_num : (1000 : ℝ) ≠ 0)), ← EReal.coe_inv, one_div]

/-- A sum over `n` places cut after the first `k`. -/
theorem cut {n : Nat} (k l : Nat) (h : n = k + l) (f : Fin n → EReal) :
    ∑ x : Fin n, f x = ∑ x : Fin k, f ⟨x.val, by omega⟩ + ∑ x : Fin l, f ⟨k + x.val, by omega⟩ := by
  subst h
  exact Fin.sum_univ_add f

/-- The first layer's products taken over the six features joined. -/
theorem first_joined (u i : Fin 128 → EReal) (a : Fin 64 → EReal) (g : Fin 32 → EReal) (c : Fin 64 → EReal) (p : Fin 1 → EReal)
    (W : (⟨2, ![417, 256]⟩ : Shape).Idx → EReal) (j : Fin 256) :
    ∑ x : Fin 417, (if h₁ : x.val < 128 then u ⟨x.val, h₁⟩ else if h₂ : x.val - 128 < 128 then i ⟨x.val - 128, h₂⟩
      else if h₃ : x.val - 128 - 128 < 64 then a ⟨x.val - 128 - 128, h₃⟩ else if h₄ : x.val - 128 - 128 - 64 < 32 then g ⟨x.val - 128 - 128 - 64, h₄⟩
      else if h₅ : x.val - 128 - 128 - 64 - 32 < 64 then c ⟨x.val - 128 - 128 - 64 - 32, h₅⟩
      else p ⟨x.val - 128 - 128 - 64 - 32 - 64, by omega⟩) * W (ix2 x j) = first u i a g c (p 0) W j := by
  have hx : ∀ {k : Nat} (v : Fin k → EReal) {x y : Nat} (hx : x < k) (hy : y < k), x = y → v ⟨x, hx⟩ = v ⟨y, hy⟩ := fun v _ _ _ _ e => by subst e; rfl
  rw [cut 416 1 rfl, cut 352 64 rfl, cut 320 32 rfl, cut 256 64 rfl, cut 128 128 rfl, Fin.sum_univ_one]
  unfold first
  refine congrArg₂ (· + ·) (congrArg₂ (· + ·) (congrArg₂ (· + ·) (congrArg₂ (· + ·) (congrArg₂ (· + ·) ?_ ?_) ?_) ?_) ?_) ?_
  all_goals first
    | refine Finset.sum_congr rfl fun x _ => congrArg₂ (· * ·) ?_ rfl
    | refine congrArg₂ (· * ·) ?_ rfl
  all_goals dsimp only
  · rw [dif_pos x.isLt]
  · rw [dif_neg (by omega), dif_pos (by omega)]
    exact hx i _ _ (by omega)
  · rw [dif_neg (by omega), dif_neg (by omega), dif_pos (by omega)]
    exact hx a _ _ (by omega)
  · rw [dif_neg (by omega), dif_neg (by omega), dif_neg (by omega), dif_pos (by omega)]
    exact hx g _ _ (by omega)
  · rw [dif_neg (by omega), dif_neg (by omega), dif_neg (by omega), dif_neg (by omega), dif_pos (by omega)]
    exact hx c _ _ (by omega)
  · rw [dif_neg (by decide), dif_neg (by decide), dif_neg (by decide), dif_neg (by decide), dif_neg (by decide)]
    exact hx p _ _ rfl

end Cert.Tower
-- ==== Proof.BlockValue.lean ====
/-
  What the TensorCore call's body leaves in a block of 2048 results: the tower of each row's features.
-/
module

public import proofs.«01_k».proof.Proof.Region
public import proofs.«01_k».proof.Proof.Tower

@[expose] public section

set_option maxRecDepth 16384

noncomputable section

namespace Cert.BlockValue

open Cert.KernelIdeal Cert.KernelIdeal.Gen
open Idealize.ShloMosaic
open Cert.Tower

/-- The named constant's value. -/
theorem milli : Named.named (F := Ideal) κ "milli" (φ := .f32) 0x3A83126F#32 = ((1 / 1000 : ℝ) : EReal) := rfl

/-- The first three features' products. -/
theorem part₁_at (W : Vec Ideal S417x256 .bf16) (u i : Vec Ideal S2048x128 .f32) (an : Vec Ideal S1x1x2048 .i32) (at' : Vec Ideal S100x64 .bf16)
    (k : Fin 2048) (ha : (an (ix3 0 0 k)).toNat < 100) (j : Fin 256) :
    k1_pay3 W u i an at' (ix2 k j) = ∑ x : Fin 128, u (ix2 k x) * W (ix2 ⟨x.val, by omega⟩ j) + ∑ x : Fin 128, i (ix2 k x) * W (ix2 ⟨128 + x.val, by omega⟩ j)
      + ∑ x : Fin 64, at' (ix2 (row 100 (an (ix3 0 0 k))) x) * W (ix2 ⟨256 + x.val, by omega⟩ j) := by
  pointwise [k1_pay3, k1_pay2]
  refine congrArg₂ (· + ·) rfl (Finset.sum_congr rfl fun x _ => congrArg (· * _) ?_)
  exact one_hot (by decide) ha fun r => at' (ix2 r x)

/-- The second layer's products, from the first three features' of the first layer. -/
theorem part₂_at (W : Vec Ideal S417x256 .bf16) (h : FVec Ideal S2048x256 .f32) (gn : Vec Ideal S1x1x2048 .i32) (gt : Vec Ideal S3x32 .bf16)
    (cn : Vec Ideal S1x1x2048 .i32) (ct : Vec Ideal S1000x64 .bf16) (p : Vec Ideal S1x1x2048 .f32) (b₁ : Vec Ideal S1x256 .f32)
    (W₂ : Vec Ideal S256x128 .bf16) (k : Fin 2048) (hg : (gn (ix3 0 0 k)).toNat < 3) (hc : (cn (ix3 0 0 k)).toNat < 1000) (j : Fin 128) :
    k1_pay6 (k1_pay2 W) h (k1_pay4 gn) (k1_pay5 gt) (constant S2048x32 .f32 0x00000000#32) cn ct p b₁ W₂ (ix2 k j)
    = ∑ y : Fin 256, max (h (ix2 k y) + ∑ x : Fin 32, gt (ix2 (row 3 (gn (ix3 0 0 k))) x) * W (ix2 ⟨320 + x.val, by omega⟩ y)
        + ∑ x : Fin 64, ct (ix2 (row 1000 (cn (ix3 0 0 k))) x) * W (ix2 ⟨352 + x.val, by omega⟩ y)
        + thousandth (p (ix3 0 0 k)) * W (ix2 416 y) + b₁ (ix2 0 y)) 0 * W₂ (ix2 y j) := by
  pointwise [k1_pay6, k1_pay2, k1_pay4, k1_pay5]
  refine Finset.sum_congr rfl fun y _ => congrArg (· * _) (congrArg (max · 0) (congrArg (· + _) ?_))
  refine congrArg₂ (· + ·) (congrArg₂ (· + ·) (congrArg₂ (· + ·) rfl ?_) ?_) ?_
  · exact Finset.sum_congr rfl fun x _ => congrArg (· * _) (one_hot (by decide) hg fun r => gt (ix2 r x))
  · exact Finset.sum_congr rfl fun x _ => congrArg (· * _) (one_hot (by decide) hc fun r => ct (ix2 r x))
  · rw [Fin.sum_univ_one]; rfl

/-- THE BLOCK AT ONE ROW: the tower of the row's features. -/
theorem block_at (u i : Vec Ideal S2048x128 .f32) (an gn cn : Vec Ideal S1x1x2048 .i32) (p : Vec Ideal S1x1x2048 .f32)
    (at' : Vec Ideal S100x64 .bf16) (gt : Vec Ideal S3x32 .bf16) (ct : Vec Ideal S1000x64 .bf16) (W : Vec Ideal S417x256 .bf16)
    (b₁ : Vec Ideal S1x256 .f32) (W₂ : Vec Ideal S256x128 .bf16) (b₂ : Vec Ideal S1x128 .f32) (W₃ : Vec Ideal S128x64 .bf16) (b₃ : Vec Ideal S1x64 .f32)
    (W₄ : Vec Ideal S64x1 .bf16) (b₄ : Vec Ideal S1x1 .f32) (k : Fin 2048) (ha : (an (ix3 0 0 k)).toNat < 100) (hg : (gn (ix3 0 0 k)).toNat < 3)
    (hc : (cn (ix3 0 0 k)).toNat < 1000) :
    Region.outBlk u i an gn cn p at' gt ct W b₁ W₂ b₂ W₃ b₃ W₄ b₄ (ix3 0 0 k)
    = rest (first (fun x => u (ix2 k x)) (fun x => i (ix2 k x)) (fun x => at' (ix2 (row 100 (an (ix3 0 0 k))) x))
        (fun x => gt (ix2 (row 3 (gn (ix3 0 0 k))) x)) (fun x => ct (ix2 (row 1000 (cn (ix3 0 0 k))) x)) (thousandth (p (ix3 0 0 k))) W)
        (fun x => b₁ (ix2 0 x)) W₂ (fun x => b₂ (ix2 0 x)) W₃ (fun x => b₃ (ix2 0 x)) W₄ (b₄ (ix2 0 0)) := by
  unfold Region.outBlk rest first
  pointwise [k1_pay1]
  refine congrArg (· + _) (Finset.sum_congr rfl fun z _ => ?_)
  rw [mul_comm]
  refine congrArg (· * _) (congrArg (max · 0) (congrArg (· + _) (Finset.sum_congr rfl fun y _ => congrArg (· * _) (congrArg (max · 0) (congrArg (· + _) ?_)))))
  rw [part₂_at W _ gn gt cn ct p b₁ W₂ k hg hc y]
  refine Finset.sum_congr rfl fun x _ => ?_
  rw [part₁_at W u i an at' k ha x]

end Cert.BlockValue
-- ==== Proof.ArrayValue.lean ====
/-
  The kernel's result at one row: the tower of the rows that the row's five numbers name.
-/
module

public import proofs.«01_k».proof.Proof.BlockValue
public import proofs.«01_k».proof.Proof.Ends
public import Idealize.ShloMosaic.Lib.Pipeline.ValueKit

@[expose] public section

set_option maxRecDepth 16384

noncomputable section

namespace Cert.ArrayValue

open Cert.KernelIdeal Cert.KernelIdeal.Gen Cert.KernelIdeal.Run
open Idealize.ShloMosaic
open Idealize.ShloMosaic.TcCoe
open Cert.Tower

section blocks

variable (V : Dev nD → Valuation τ sig (Elt Ideal)) (c : Dev nD)

/-- Where each window stands at a point: the rows' windows and the lanes' move with it, the small arrays' stay. -/
theorem at_point : ∀ t : Fin grid1.N, win1_0.index t = ![t.val, 0] ∧ win1_1.index t = ![t.val, 0] ∧ win1_2.index t = ![t.val, 0, 0]
    ∧ win1_3.index t = ![t.val, 0, 0] ∧ win1_4.index t = ![t.val, 0, 0] ∧ win1_5.index t = ![t.val, 0, 0] ∧ win1_17.index t = ![t.val, 0, 0] := by decide +kernel
/-- The windows on the tables and the layers stay at the origin. -/
theorem stay : ∀ t : Fin grid1.N, win1_6.index t = ![0, 0] ∧ win1_7.index t = ![0, 0] ∧ win1_8.index t = ![0, 0] ∧ win1_9.index t = ![0, 0] ∧ win1_10.index t = ![0, 0] ∧ win1_11.index t = ![0, 0] ∧ win1_12.index t = ![0, 0] ∧ win1_13.index t = ![0, 0] ∧ win1_14.index t = ![0, 0] ∧ win1_15.index t = ![0, 0] ∧ win1_16.index t = ![0, 0] := by decide +kernel

/-- Row `k` of a block of the users' rows is row `2048 * t + k` of the array, -/
theorem blk_0 (t : Fin grid1.N) (k : Fin 2048) (x : Fin 128) (n : Fin 16384) (h : n.val = 2048 * t.val + k.val) :
    Region.iblk V c 0 t (ix2 k x) = (V c (Proc.devRef .tc main_v2_0) : Vec Ideal S16384x128 .f32) (ix2 n x) := by
  blk_ext [Region.iblk, at_point t]
/-- and so of a block of the items' rows. -/
theorem blk_1 (t : Fin grid1.N) (k : Fin 2048) (x : Fin 128) (n : Fin 16384) (h : n.val = 2048 * t.val + k.val) :
    Region.iblk V c 1 t (ix2 k x) = (V c (Proc.devRef .tc main_v2_1) : Vec Ideal S16384x128 .f32) (ix2 n x) := by
  blk_ext [Region.iblk, at_point t]
/-- Lane `k` of a block of the ages is lane `k` of row `t` of the array, and so for the genders, categories and prices. -/
theorem blk_2 (t : Fin grid1.N) (k : Fin 2048) (g : Fin 8) (h : g.val = t.val) :
    Region.iblk V c 2 t (ix3 0 0 k) = (V c (Proc.devRef .tc main_v14) : Vec Ideal S8x1x2048 .i32) (ix3 g 0 k) := by
  blk_ext [Region.iblk, at_point t]
/-- The block of the genders is row `g` of their array. -/
theorem blk_3 (t : Fin grid1.N) (k : Fin 2048) (g : Fin 8) (h : g.val = t.val) :
    Region.iblk V c 3 t (ix3 0 0 k) = (V c (Proc.devRef .tc main_v15) : Vec Ideal S8x1x2048 .i32) (ix3 g 0 k) := by
  blk_ext [Region.iblk, at_point t]
/-- The block of the categories is row `g` of their array. -/
theorem blk_4 (t : Fin grid1.N) (k : Fin 2048) (g : Fin 8) (h : g.val = t.val) :
    Region.iblk V c 4 t (ix3 0 0 k) = (V c (Proc.devRef .tc main_v16) : Vec Ideal S8x1x2048 .i32) (ix3 g 0 k) := by
  blk_ext [Region.iblk, at_point t]
/-- The block of the prices is row `g` of their array. -/
theorem blk_5 (t : Fin grid1.N) (k : Fin 2048) (g : Fin 8) (h : g.val = t.val) :
    Region.iblk V c 5 t (ix3 0 0 k) = (V c (Proc.devRef .tc main_v17) : Vec Ideal S8x1x2048 .f32) (ix3 g 0 k) := by
  blk_ext [Region.iblk, at_point t]
/-- A small array's block is the array. -/
theorem blk_6 (t : Fin grid1.N) : Region.iblk V c 6 t = (V c (Proc.devRef .tc main_v7) : Vec Ideal S100x64 .bf16) := by
  funext y
  blk_ext [Region.iblk, stay t]
/-- The block of the gender table is the whole array. -/
theorem blk_7 (t : Fin grid1.N) : Region.iblk V c 7 t = (V c (Proc.devRef .tc main_v8) : Vec Ideal S3x32 .bf16) := by
  funext y
  blk_ext [Region.iblk, stay t]
/-- The block of the category table is the whole array. -/
theorem blk_8 (t : Fin grid1.N) : Region.iblk V c 8 t = (V c (Proc.devRef .tc main_v9) : Vec Ideal S1000x64 .bf16) := by
  funext y
  blk_ext [Region.iblk, stay t]
/-- The block of the first layer's weights is the whole array. -/
theorem blk_9 (t : Fin grid1.N) : Region.iblk V c 9 t = (V c (Proc.devRef .tc main_v10) : Vec Ideal S417x256 .bf16) := by
  funext y
  blk_ext [Region.iblk, stay t]
/-- The block of the first layer's biases is the whole array. -/
theorem blk_10 (t : Fin grid1.N) : Region.iblk V c 10 t = (V c (Proc.devRef .tc main_v3) : Vec Ideal S1x256 .f32) := by
  funext y
  blk_ext [Region.iblk, stay t]
/-- The block of the second layer's weights is the whole array. -/
theorem blk_11 (t : Fin grid1.N) : Region.iblk V c 11 t = (V c (Proc.devRef .tc main_v11) : Vec Ideal S256x128 .bf16) := by
  funext y
  blk_ext [Region.iblk, stay t]
/-- The block of the second layer's biases is the whole array. -/
theorem blk_12 (t : Fin grid1.N) : Region.iblk V c 12 t = (V c (Proc.devRef .tc main_v4) : Vec Ideal S1x128 .f32) := by
  funext y
  blk_ext [Region.iblk, stay t]
/-- The block of the third layer's weights is the whole array. -/
theorem blk_13 (t : Fin grid1.N) : Region.iblk V c 13 t = (V c (Proc.devRef .tc main_v12) : Vec Ideal S128x64 .bf16) := by
  funext y
  blk_ext [Region.iblk, stay t]
/-- The block of the third layer's biases is the whole array. -/
theorem blk_14 (t : Fin grid1.N) : Region.iblk V c 14 t = (V c (Proc.devRef .tc main_v5) : Vec Ideal S1x64 .f32) := by
  funext y
  blk_ext [Region.iblk, stay t]
/-- The block of the last layer's weights is the whole array. -/
theorem blk_15 (t : Fin grid1.N) : Region.iblk V c 15 t = (V c (Proc.devRef .tc main_v13) : Vec Ideal S64x1 .bf16) := by
  funext y
  blk_ext [Region.iblk, stay t]
/-- The block of the last layer's bias is the whole array. -/
theorem blk_16 (t : Fin grid1.N) : Region.iblk V c 16 t = (V c (Proc.devRef .tc main_v6) : Vec Ideal S1x1 .f32) := by
  funext y
  blk_ext [Region.iblk, stay t]

/-- The call's result array: its eight blocks side by side. -/
theorem result_array : (Region.dats V 0 c).arrAt 17 cfg1.N = fun y => Region.outAt V c (y 0) (ix3 0 0 (y 2)) := by
  refine (Region.dats V 0 c).arrAt_eq_of_covers 17 _ (by decide +kernel) fun t hf y => ?_
  blk_simp
  rw [Region.after_17]
  have e₀ : (win1_17.blk t).view.emb y 0 = t := by
    apply Fin.ext
    blk_simp [at_point t]
  have e₂ : y = ix3 0 0 ((win1_17.blk t).view.emb y 2) := by
    blk_ext [at_point t]
  rw [e₀]
  exact congrArg _ e₂

end blocks
section entry

variable (m : (ℓ : Loc nD τ sig) → Buf (Elt Ideal) ℓ) (d : Dev nD)

/-! The TensorCore call's operands, each from its argument: a rounding keeps the value here, the rest is layout. -/

/-- The age table, from the argument. -/
theorem entry_6 : V₃ m d (Proc.devRef .tc main_v7) = (m (d, Proc.devRef .tc main_arg8) : Vec Ideal S100x64 .f32) := by
  unfold V₃ ops₂
  after_results_simp
  rw [Ends.kept_call m d (by decide)]
  rfl
/-- The gender table, from the argument. -/
theorem entry_7 : V₃ m d (Proc.devRef .tc main_v8) = (m (d, Proc.devRef .tc main_arg9) : Vec Ideal S3x32 .f32) := by
  unfold V₃ ops₂
  after_results_simp
  rw [Ends.kept_call m d (by decide)]
  rfl
/-- The category table, from the argument. -/
theorem entry_8 : V₃ m d (Proc.devRef .tc main_v9) = (m (d, Proc.devRef .tc main_arg10) : Vec Ideal S1000x64 .f32) := by
  unfold V₃ ops₂
  after_results_simp
  rw [Ends.kept_call m d (by decide)]
  rfl
/-- The first layer's weights, from the argument. -/
theorem entry_9 : V₃ m d (Proc.devRef .tc main_v10) = (m (d, Proc.devRef .tc main_arg11) : Vec Ideal S417x256 .f32) := by
  unfold V₃ ops₂
  after_results_simp
  rw [Ends.kept_call m d (by decide)]
  rfl
/-- The second layer's weights, from the argument. -/
theorem entry_11 : V₃ m d (Proc.devRef .tc main_v11) = (m (d, Proc.devRef .tc main_arg13) : Vec Ideal S256x128 .f32) := by
  unfold V₃ ops₂
  after_results_simp
  rw [Ends.kept_call m d (by decide)]
  rfl
/-- The third layer's weights, from the argument. -/
theorem entry_13 : V₃ m d (Proc.devRef .tc main_v12) = (m (d, Proc.devRef .tc main_arg15) : Vec Ideal S128x64 .f32) := by
  unfold V₃ ops₂
  after_results_simp
  rw [Ends.kept_call m d (by decide)]
  rfl
/-- The last layer's weights, from the argument. -/
theorem entry_15 : V₃ m d (Proc.devRef .tc main_v13) = (m (d, Proc.devRef .tc main_arg17) : Vec Ideal S64x1 .f32) := by
  unfold V₃ ops₂
  after_results_simp
  rw [Ends.kept_call m d (by decide)]
  rfl
/-- The first layer's biases as one row, from the argument. -/
theorem entry_10 : V₃ m d (Proc.devRef .tc main_v3) = shapeCast S1x256 (m (d, Proc.devRef .tc main_arg12) : Vec Ideal S256 .f32) shapeCasts_S256_S1x256 := by
  unfold V₃ ops₂
  after_results_simp
  rw [Ends.kept_call m d (by decide)]
  rfl
/-- The second layer's biases as one row, from the argument. -/
theorem entry_12 : V₃ m d (Proc.devRef .tc main_v4) = shapeCast S1x128 (m (d, Proc.devRef .tc main_arg14) : Vec Ideal S128 .f32) shapeCasts_S128_S1x128 := by
  unfold V₃ ops₂
  after_results_simp
  rw [Ends.kept_call m d (by decide)]
  rfl
/-- The third layer's biases as one row, from the argument. -/
theorem entry_14 : V₃ m d (Proc.devRef .tc main_v5) = shapeCast S1x64 (m (d, Proc.devRef .tc main_arg16) : Vec Ideal S64 .f32) shapeCasts_S64_S1x64 := by
  unfold V₃ ops₂
  after_results_simp
  rw [Ends.kept_call m d (by decide)]
  rfl
/-- The last layer's bias as one row, from the argument. -/
theorem entry_16 : V₃ m d (Proc.devRef .tc main_v6) = shapeCast S1x1 (m (d, Proc.devRef .tc main_arg18) : Vec Ideal S1 .f32) shapeCasts_S1_S1x1 := by
  unfold V₃ ops₂
  after_results_simp
  rw [Ends.kept_call m d (by decide)]
  rfl
/-- The ages, cut into eight rows, from their argument. -/
theorem entry_2 : V₃ m d (Proc.devRef .tc main_v14) = shapeCast S8x1x2048 (m (d, Proc.devRef .tc main_arg1) : Vec Ideal S16384x1 .i32) shapeCasts_S16384x1_S8x1x2048 := by
  unfold V₃ ops₂
  after_results_simp
  rw [Ends.kept_call m d (by decide)]
  rfl
/-- The genders, cut into eight rows, from their argument. -/
theorem entry_3 : V₃ m d (Proc.devRef .tc main_v15) = shapeCast S8x1x2048 (m (d, Proc.devRef .tc main_arg2) : Vec Ideal S16384x1 .i32) shapeCasts_S16384x1_S8x1x2048 := by
  unfold V₃ ops₂
  after_results_simp
  rw [Ends.kept_call m d (by decide)]
  rfl
/-- The categories, cut into eight rows, from their argument. -/
theorem entry_4 : V₃ m d (Proc.devRef .tc main_v16) = shapeCast S8x1x2048 (m (d, Proc.devRef .tc main_arg4) : Vec Ideal S16384x1 .i32) shapeCasts_S16384x1_S8x1x2048 := by
  unfold V₃ ops₂
  after_results_simp
  rw [Ends.kept_call m d (by decide)]
  rfl
/-- The prices, cut into eight rows, from their argument. -/
theorem entry_5 : V₃ m d (Proc.devRef .tc main_v17) = shapeCast S8x1x2048 (m (d, Proc.devRef .tc main_arg5) : Vec Ideal S16384x1 .f32) shapeCasts_S16384x1_S8x1x2048 := by
  unfold V₃ ops₂
  after_results_simp
  rw [Ends.kept_call m d (by decide)]
  rfl

/-- The users' rows, as the SparseCore call leaves them. -/
theorem entry_0 (n : Fin 16384) (x : Fin 128) : (V₃ m d (Proc.devRef .tc main_v2_0) : Vec Ideal S16384x128 .f32) (ix2 n x)
    = (m (d, Proc.devRef .tc main_arg6) : Vec Ideal S1000000x128 .f32) (ix2 (row 1000000 ((m (d, Proc.devRef .tc main_arg0) : Vec Ideal S16384x1 .i32) (ix2 n 0))) x) := by
  have e : V₃ m d (Proc.devRef .tc main_v2_0) = Tile.picked (F := Ideal) (n := 1000000) (shapeCast S16384 (m (d, Proc.devRef .tc main_arg0) : Vec Ideal S16384x1 .i32) shapeCasts_S16384x1_S16384) (m (d, Proc.devRef .tc main_arg6)) := by
    unfold V₃
    rw [Ends.kept₂ _ (by decide), V₂_uo, Call.userRows, show Call.at_ui (V₁ m) d = _ from Ends.users m d,
      show Call.at_ut (V₁ m) d = _ from Ends.kept₁ (V₀ m d) (r := main_arg6) (by decide)]
    rfl
  have q : shapeCast S16384 (m (d, Proc.devRef .tc main_arg0) : Vec Ideal S16384x1 .i32) shapeCasts_S16384x1_S16384 (ix1 n) = (m (d, Proc.devRef .tc main_arg0) : Vec Ideal S16384x1 .i32) (ix2 n 0) := by pointwise
  rw [e, ← q]
  simp only [Tile.picked, ix2_eq_valueIdx, ix1_eq_valueIdx]
  rfl

/-- The items' rows, as the SparseCore call leaves them. -/
theorem entry_1 (n : Fin 16384) (x : Fin 128) : (V₃ m d (Proc.devRef .tc main_v2_1) : Vec Ideal S16384x128 .f32) (ix2 n x)
    = (m (d, Proc.devRef .tc main_arg7) : Vec Ideal S100000x128 .f32) (ix2 (row 100000 ((m (d, Proc.devRef .tc main_arg3) : Vec Ideal S16384x1 .i32) (ix2 n 0))) x) := by
  have e : V₃ m d (Proc.devRef .tc main_v2_1) = Tile.picked (F := Ideal) (n := 100000) (shapeCast S16384 (m (d, Proc.devRef .tc main_arg3) : Vec Ideal S16384x1 .i32) shapeCasts_S16384x1_S16384) (m (d, Proc.devRef .tc main_arg7)) := by
    unfold V₃
    rw [Ends.kept₂ _ (by decide), V₂_io, Call.itemRows, show Call.at_ii (V₁ m) d = _ from Ends.items m d,
      show Call.at_it (V₁ m) d = _ from Ends.kept₁ (V₀ m d) (r := main_arg7) (by decide)]
    rfl
  have q : shapeCast S16384 (m (d, Proc.devRef .tc main_arg3) : Vec Ideal S16384x1 .i32) shapeCasts_S16384x1_S16384 (ix1 n) = (m (d, Proc.devRef .tc main_arg3) : Vec Ideal S16384x1 .i32) (ix2 n 0) := by pointwise
  rw [e, ← q]
  simp only [Tile.picked, ix2_eq_valueIdx, ix1_eq_valueIdx]
  rfl

/-- A column cut in eight: lane `k` of row `g` is the column's entry `2048 * g + k`. -/
theorem lane {e : EltTy} (x : Vec Ideal S16384x1 e) (n : Fin 16384) (g : Fin 8) (k : Fin 2048) (h : n.val = 2048 * g.val + k.val) :
    shapeCast S8x1x2048 x shapeCasts_S16384x1_S8x1x2048 (ix3 g 0 k) = x (ix2 n 0) := by
  have b : g.val * 2048 + k.val < 16384 := by clear h; omega
  obtain rfl : n = ⟨g.val * 2048 + k.val, b⟩ := Fin.ext (by simp only; omega)
  pointwise

/-- The result, from the block its row lies in. -/
theorem result (n : Fin 16384) (g : Fin 8) (k : Fin 2048) (h : n.val = 2048 * g.val + k.val) :
    (VEnd m d (Proc.devRef .tc main_v19) : Vec Ideal S16384 .f32) (ix1 n) = Region.outAt (V₃ m) d g (ix3 0 0 k) := by
  have e : VEnd m d (Proc.devRef .tc main_v19)
      = shapeCast S16384 (fun y => Region.outAt (V₃ m) d (y 0) (ix3 0 0 (y 2)) : Vec Ideal S8x1x2048 .f32) shapeCasts_S8x1x2048_S16384 := by
    unfold VEnd ops₃
    after_results_simp
    have e' : V₄ m d (Proc.devRef .tc main_v18) = _ :=
      (Pipeline.afterRegion_arr (Region.dats (V₃ m) 0 d) (V₃ m d) (by decide) 17).trans (result_array (V₃ m) d)
    rw [e']
    rfl
  rw [e]
  have bg : n.val / 2048 < 8 := by clear h; omega
  have bk : n.val % 2048 < 2048 := by clear h; omega
  obtain rfl : g = ⟨n.val / 2048, bg⟩ := Fin.ext (by simp only; omega)
  obtain rfl : k = ⟨n.val % 2048, bk⟩ := Fin.ext (by simp only at h ⊢; omega)
  pointwise

/-- THE KERNEL AT ONE ROW: the tower of what the row's numbers name. -/
theorem at_row (h : Ranges.InRange (m (d, Proc.devRef .tc main_arg0)) (m (d, Proc.devRef .tc main_arg1)) (m (d, Proc.devRef .tc main_arg2)) (m (d, Proc.devRef .tc main_arg3)) (m (d, Proc.devRef .tc main_arg4))) (n : Fin 16384) :
    (VEnd m d (Proc.devRef .tc main_v19) : Vec Ideal S16384 .f32) (ix1 n) = rest (first
      (fun x => m (d, Proc.devRef .tc main_arg6) (ix2 (row 1000000 (m (d, Proc.devRef .tc main_arg0) (ix2 n 0))) x))
      (fun x => m (d, Proc.devRef .tc main_arg7) (ix2 (row 100000 (m (d, Proc.devRef .tc main_arg3) (ix2 n 0))) x))
      (fun x => m (d, Proc.devRef .tc main_arg8) (ix2 (row 100 (m (d, Proc.devRef .tc main_arg1) (ix2 n 0))) x))
      (fun x => m (d, Proc.devRef .tc main_arg9) (ix2 (row 3 (m (d, Proc.devRef .tc main_arg2) (ix2 n 0))) x))
      (fun x => m (d, Proc.devRef .tc main_arg10) (ix2 (row 1000 (m (d, Proc.devRef .tc main_arg4) (ix2 n 0))) x))
      (thousandth (m (d, Proc.devRef .tc main_arg5) (ix2 n 0))) (m (d, Proc.devRef .tc main_arg11)))
      (fun x => m (d, Proc.devRef .tc main_arg12) (ix1 x)) (m (d, Proc.devRef .tc main_arg13)) (fun x => m (d, Proc.devRef .tc main_arg14) (ix1 x)) (m (d, Proc.devRef .tc main_arg15)) (fun x => m (d, Proc.devRef .tc main_arg16) (ix1 x)) (m (d, Proc.devRef .tc main_arg17)) (m (d, Proc.devRef .tc main_arg18) (ix1 0)) := by
  obtain ⟨g, hg⟩ : ∃ g : Fin 8, g.val = n.val / 2048 := ⟨⟨n.val / 2048, by omega⟩, rfl⟩
  obtain ⟨k, hk⟩ : ∃ k : Fin 2048, k.val = n.val % 2048 := ⟨⟨n.val % 2048, by omega⟩, rfl⟩
  have hgk : n.val = 2048 * g.val + k.val := by omega
  have la : Region.iblk (V₃ m) d 2 g (ix3 0 0 k) = (m (d, Proc.devRef .tc main_arg1) : Vec Ideal S16384x1 .i32) (ix2 n 0) := by rw [blk_2 _ _ g k g rfl, entry_2, lane _ n g k hgk]
  have lg : Region.iblk (V₃ m) d 3 g (ix3 0 0 k) = (m (d, Proc.devRef .tc main_arg2) : Vec Ideal S16384x1 .i32) (ix2 n 0) := by rw [blk_3 _ _ g k g rfl, entry_3, lane _ n g k hgk]
  have lc : Region.iblk (V₃ m) d 4 g (ix3 0 0 k) = (m (d, Proc.devRef .tc main_arg4) : Vec Ideal S16384x1 .i32) (ix2 n 0) := by rw [blk_4 _ _ g k g rfl, entry_4, lane _ n g k hgk]
  have lp : Region.iblk (V₃ m) d 5 g (ix3 0 0 k) = (m (d, Proc.devRef .tc main_arg5) : Vec Ideal S16384x1 .f32) (ix2 n 0) := by rw [blk_5 _ _ g k g rfl, entry_5, lane _ n g k hgk]
  have lu : ∀ x : Fin 128, Region.iblk (V₃ m) d 0 g (ix2 k x) = _ := fun x => (blk_0 _ _ g k x n hgk).trans (entry_0 m d n x)
  have li : ∀ x : Fin 128, Region.iblk (V₃ m) d 1 g (ix2 k x) = _ := fun x => (blk_1 _ _ g k x n hgk).trans (entry_1 m d n x)
  have b₁ : ∀ x : Fin 256, Region.iblk (V₃ m) d 10 g (ix2 0 x) = (m (d, Proc.devRef .tc main_arg12) : Vec Ideal S256 .f32) (ix1 x) := fun x =>
    (congrFun ((blk_10 _ _ g).trans (entry_10 m d)) _).trans (by pointwise)
  have b₂ : ∀ x : Fin 128, Region.iblk (V₃ m) d 12 g (ix2 0 x) = (m (d, Proc.devRef .tc main_arg14) : Vec Ideal S128 .f32) (ix1 x) := fun x =>
    (congrFun ((blk_12 _ _ g).trans (entry_12 m d)) _).trans (by pointwise)
  have b₃ : ∀ x : Fin 64, Region.iblk (V₃ m) d 14 g (ix2 0 x) = (m (d, Proc.devRef .tc main_arg16) : Vec Ideal S64 .f32) (ix1 x) := fun x =>
    (congrFun ((blk_14 _ _ g).trans (entry_14 m d)) _).trans (by pointwise)
  have b₄ : Region.iblk (V₃ m) d 16 g (ix2 0 0) = (m (d, Proc.devRef .tc main_arg18) : Vec Ideal S1 .f32) (ix1 0) :=
    (congrFun ((blk_16 _ _ g).trans (entry_16 m d)) _).trans (by pointwise)
  have w6 : Region.iblk (V₃ m) d 6 g = m (d, Proc.devRef .tc main_arg8) := (blk_6 _ _ g).trans (entry_6 m d)
  have w7 : Region.iblk (V₃ m) d 7 g = m (d, Proc.devRef .tc main_arg9) := (blk_7 _ _ g).trans (entry_7 m d)
  have w8 : Region.iblk (V₃ m) d 8 g = m (d, Proc.devRef .tc main_arg10) := (blk_8 _ _ g).trans (entry_8 m d)
  have w9 : Region.iblk (V₃ m) d 9 g = m (d, Proc.devRef .tc main_arg11) := (blk_9 _ _ g).trans (entry_9 m d)
  have w11 : Region.iblk (V₃ m) d 11 g = m (d, Proc.devRef .tc main_arg13) := (blk_11 _ _ g).trans (entry_11 m d)
  have w13 : Region.iblk (V₃ m) d 13 g = m (d, Proc.devRef .tc main_arg15) := (blk_13 _ _ g).trans (entry_13 m d)
  have w15 : Region.iblk (V₃ m) d 15 g = m (d, Proc.devRef .tc main_arg17) := (blk_15 _ _ g).trans (entry_15 m d)
  rw [result m d n g k hgk]
  unfold Region.outAt
  rw [BlockValue.block_at _ _ _ _ _ _ _ _ _ _ _ _ _ _ _ _ _ k (by rw [la]; exact h.age _) (by rw [lg]; exact h.gender _) (by rw [lc]; exact h.category _)]
  rw [la, lg, lc, lp, funext lu, funext li, funext b₁, funext b₂, funext b₃, b₄, w6, w7, w8, w9, w11, w13, w15]

end entry
end Cert.ArrayValue
-- ==== Proof.ReferenceValue.lean ====
/-
  The reference's result at one row: the tower of the rows that the row's five numbers name.
-/
module

public import proofs.«01_k».proof.Proof.Gen.ReferenceIdeal.Run
public import proofs.«01_k».proof.Proof.Ranges
public import proofs.«01_k».proof.Proof.Tower
public import Idealize.ShloMosaic.Lib.Routing.Ops
public import Idealize.ShloMosaic.Lib.Tactic.CleanTypes

@[expose] public section

set_option maxRecDepth 16384

noncomputable section

namespace Cert.ReferenceValue

open Cert.ReferenceIdeal Cert.ReferenceIdeal.Gen
open Idealize.ShloMosaic
open Idealize.ShloMosaic.TcCoe
open Cert.Tower

/-- A column of numbers as the reference reads it: a number below zero counted from the table's end. -/
abbrev wrapped (n : Nat) (a : IVec S16384x1 32) : IVec S16384x1 32 :=
  broadcastInDim S16384x1 ![0] bcast_S16384_S16384x1_0
    (select (cmpi .slt (shapeCast S16384 a shapeCasts_S16384x1_S16384) (broadcastInDim S16384 ![] bcast_S_S16384 (constantI S_ 32 0#32)))
      (addi (shapeCast S16384 a shapeCasts_S16384x1_S16384) (broadcastInDim S16384 ![] bcast_S_S16384 (constantI S_ 32 (BitVec.ofNat 32 n))))
      (shapeCast S16384 a shapeCasts_S16384x1_S16384))

/-- Numbers that name rows are read as they are. -/
theorem wrapped_at {n : Nat} {a : IVec S16384x1 32} (h : ∀ i, (a i).toNat < n) (hn : n < 2 ^ 31) (r : Fin 16384) :
    wrapped n a (ix2 r 0) = a (ix2 r 0) := by
  have e : ∀ x y : BitVec 32, x.toNat < n → Scalar.select (IntOp.cmpi .slt x 0#32) y x = x := fun x y hx => by
    rw [WordCmp.cmpi_slt_zero, decide_eq_false (by omega)]; rfl
  pointwise [wrapped]
  exact e _ _ (h _)

/-- One lookup: where every number names a row, the rows the numbers name. -/
theorem taken {n B : Nat} [NeZero n] (d : GatherDims ⟨2, ![n, B]⟩ S16384x1 ⟨2, ![16384, B]⟩) (hoff : d.offsetDims = [1])
    (hcoll : d.collapsedSliceDims = [0]) (hob : d.operandBatchingDims = []) (hsim : d.startIndexMap = [0]) (hivd : d.indexVectorDim = 1)
    (hb : S16384.BroadcastsInDim ⟨2, ![16384, B]⟩ (![0] : Fin 1 → Fin 2)) (hz : S_.BroadcastsInDim ⟨2, ![16384, B]⟩ (![] : Fin 0 → Fin 2))
    (t : FVec Ideal ⟨2, ![n, B]⟩ .f32) (a : IVec S16384x1 32) (h : ∀ i, (a i).toNat < n) (hn : n < 2 ^ 31) (l : BitVec 32) (hl : l = BitVec.ofNat 32 (n - 1)) :
    select (broadcastInDim ⟨2, ![16384, B]⟩ ![0] hb (Host.reduce IntOp.andi (andi
        (cmpi .sge (wrapped n a) (broadcastInDim S16384x1 ![] bcast_S_S16384x1 (constantI S_ 32 0#32)))
        (cmpi .sle (wrapped n a) (broadcastInDim S16384x1 ![0, 1] bcast_S1x1_S16384x1_0_1 (broadcastInDim S1x1 ![1] bcast_S1_S1x1_1 (constantI S1 32 l)))))
        (constantI S_ 1 1#1) reducesTo_S16384x1_S16384_d1 h_S_))
      (Host.gather d t (wrapped n a)) (broadcastInDim ⟨2, ![16384, B]⟩ ![] hz (constant S_ .f32 0x7FC00000#32))
    = fun x => t (ix2 (row n (a (ix2 (x 0) 0))) (x 1)) := by
  have hw : ∀ i, wrapped n a i = a i := fun i => by
    obtain ⟨p, q, rfl⟩ : ∃ (p : Fin 16384) (q : Fin 1), i = ix2 p q := ⟨i 0, i 1, eq_ix2 i⟩
    obtain rfl : q = 0 := Subsingleton.elim _ _
    exact wrapped_at h hn p
  have hm : ∀ i, andi (cmpi .sge (wrapped n a) (broadcastInDim S16384x1 ![] bcast_S_S16384x1 (constantI S_ 32 0#32)))
        (cmpi .sle (wrapped n a) (broadcastInDim S16384x1 ![0, 1] bcast_S1x1_S16384x1_0_1 (broadcastInDim S1x1 ![1] bcast_S1_S1x1_1 (constantI S1 32 l)))) i = 1#1 := by
    intro i
    show IntOp.andi (IntOp.cmpi .sge (wrapped n a i) 0#32) (IntOp.cmpi .sle (wrapped n a i) l) = 1#1
    have h' := h i
    have hl' : l.toNat = n - 1 := by rw [hl, BitVec.toNat_ofNat, Nat.mod_eq_of_lt (by omega)]
    rw [hw i, WordCmp.cmpi_sge_zero, WordCmp.cmpi_sle_of_lt (by omega) (by omega), decide_eq_true (show (a i).toNat < 2 ^ (32 - 1) by omega),
      decide_eq_true (show (a i).toNat ≤ l.toNat by omega)]
    rfl
  funext x
  obtain ⟨p, q, rfl⟩ : ∃ (p : Fin 16384) (q : Fin B), x = ix2 p q := ⟨x 0, x 1, eq_ix2 x⟩
  show Scalar.select (Host.reduce IntOp.andi _ _ _ _ _) _ _ = _
  rw [Host.reduce_andi_one _ _ _ _ _ rfl hm]
  show Host.gather d t (wrapped n a) (ix2 p q) = t (ix2 (row n (a (ix2 p 0))) q)
  rw [ix2_eq_valueIdx, ix2_eq_valueIdx (row n _)]
  refine Routing.gather_row d hoff hcoll hob hsim hivd t (wrapped n a) p q _ ?_ hn
  rw [← ix2_eq_valueIdx, hw, row_val n (h _)]
  exact (BitVec.ofNat_toNat 32 _ |>.trans (BitVec.setWidth_eq _)).symm

/-- THE REFERENCE AT ONE ROW: the tower of what the row's numbers name. -/
theorem at_row (m : (ℓ : Loc nD τ sig) → Buf (Elt Ideal) ℓ) (c : Dev nD)
    (h : Ranges.InRange (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (n : Fin 16384) :
    Value.res_main_v32 m c (ix1 n) = rest (first
      (fun x => m ((c.tc : Thread nD τ).loc main_arg6) (ix2 (row 1000000 (m ((c.tc : Thread nD τ).loc main_arg0) (ix2 n 0))) x))
      (fun x => m ((c.tc : Thread nD τ).loc main_arg7) (ix2 (row 100000 (m ((c.tc : Thread nD τ).loc main_arg3) (ix2 n 0))) x))
      (fun x => m ((c.tc : Thread nD τ).loc main_arg8) (ix2 (row 100 (m ((c.tc : Thread nD τ).loc main_arg1) (ix2 n 0))) x))
      (fun x => m ((c.tc : Thread nD τ).loc main_arg9) (ix2 (row 3 (m ((c.tc : Thread nD τ).loc main_arg2) (ix2 n 0))) x))
      (fun x => m ((c.tc : Thread nD τ).loc main_arg10) (ix2 (row 1000 (m ((c.tc : Thread nD τ).loc main_arg4) (ix2 n 0))) x))
      (thousandth (m ((c.tc : Thread nD τ).loc main_arg5) (ix2 n 0)))
      (m ((c.tc : Thread nD τ).loc main_arg11)))
      (fun x => m ((c.tc : Thread nD τ).loc main_arg12) (ix1 x)) (m ((c.tc : Thread nD τ).loc main_arg13))
      (fun x => m ((c.tc : Thread nD τ).loc main_arg14) (ix1 x)) (m ((c.tc : Thread nD τ).loc main_arg15))
      (fun x => m ((c.tc : Thread nD τ).loc main_arg16) (ix1 x)) (m ((c.tc : Thread nD τ).loc main_arg17)) (m ((c.tc : Thread nD τ).loc main_arg18) (ix1 0)) := by
  unfold Value.res_main_v32
  clean_types
  rw [taken gather_S1000000x128_S16384x1_S16384x128_1_0_n_n_0_1_1128 rfl rfl rfl rfl rfl _ _ _ _ h.user (by decide) _ rfl,
    taken gather_S100000x128_S16384x1_S16384x128_1_0_n_n_0_1_1128 rfl rfl rfl rfl rfl _ _ _ _ h.item (by decide) _ rfl,
    taken gather_S100x64_S16384x1_S16384x64_1_0_n_n_0_1_164 rfl rfl rfl rfl rfl _ _ _ _ h.age (by decide) _ rfl,
    taken gather_S3x32_S16384x1_S16384x32_1_0_n_n_0_1_132 rfl rfl rfl rfl rfl _ _ _ _ h.gender (by decide) _ rfl,
    taken gather_S1000x64_S16384x1_S16384x64_1_0_n_n_0_1_164 rfl rfl rfl rfl rfl _ _ _ _ h.category (by decide) _ rfl]
  pointwise
  refine rest_congr ?_
  intro x
  rw [← div_thousand]
  refine Eq.trans ?_ (first_joined _ _ _ _ _ (fun q => Ideal.div (m ((c.tc : Thread nD τ).loc main_arg5) (ix2 n q)) (Ideal.ofBits .f32 0x447A0000#32)) _ x)
  rfl

end Cert.ReferenceValue
-- ==== Proof.Values.lean ====
/-
  The two results are equal, row by row: the reference's row and the kernel's row are the same tower of the same operands.
-/
module

public import proofs.«01_k».proof.Proof.ArrayValue
public import proofs.«01_k».proof.Proof.ReferenceValue

@[expose] public section

set_option maxRecDepth 16384

noncomputable section

namespace Cert.Values

open Idealize.ShloMosaic Idealize.ShloMosaic.TcCoe

/-- From equal arguments whose numbers name rows, the reference's result is the kernel's. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Ranges.InRange (m (c, Proc.devRef .tc Cert.KernelIdeal.main_arg0))
      (m (c, Proc.devRef .tc Cert.KernelIdeal.main_arg1))
      (m (c, Proc.devRef .tc Cert.KernelIdeal.main_arg2))
      (m (c, Proc.devRef .tc Cert.KernelIdeal.main_arg3))
      (m (c, Proc.devRef .tc Cert.KernelIdeal.main_arg4)))
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v32 m' c = Cert.KernelIdeal.Run.VEnd m c (Proc.devRef .tc Cert.KernelIdeal.main_v19) := by
  obtain ⟨h0, h1, h2, h3, h4, h5, h6, h7, h8, h9, h10, h11, h12, h13, h14, h15, h16, h17, h18⟩ := ha
  have h' : Ranges.InRange (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := by
    rw [h0, h1, h2, h3, h4]
    exact h
  funext y
  obtain ⟨n, rfl⟩ : ∃ n : Fin 16384, y = ix1 n := ⟨y 0, by blk_ext⟩
  refine (ReferenceValue.at_row m' c h' n).trans (Eq.trans ?_ (ArrayValue.at_row m c h n).symm)
  rw [h0, h1, h2, h3, h4, h5, h6, h7, h8, h9, h10, h11, h12, h13, h14, h15, h16, h17, h18]

end Cert.Values
end
-- ==== Proof.lean ====
/-
  The claims, from the runs: the two prints of the kernel end with their arguments as they were and every semaphore at zero;
  so does the reference; the named constant is the real number that it stands for; and the idealized kernel's results are the
  reference's.
-/
module

public import proofs.«01_k».proof.Defs
public import proofs.«01_k».proof.Proof.BitsEnds
public import proofs.«01_k».proof.Proof.Ends
public import proofs.«01_k».proof.Proof.Ranges
public import proofs.«01_k».proof.Proof.Gen.ReferenceIdeal.Run
public import proofs.«01_k».proof.Proof.Gen.Pre_in_range
public import proofs.«01_k».proof.Proof.Values
public import Idealize.ShloMosaic.Adequacy
public import Idealize.ShloMosaic.Init

@[expose] public section

set_option maxRecDepth 16384

noncomputable section

namespace Cert.Proof

open Idealize.ShloMosaic Idealize.SL.Sem

/-- Under the precondition every number names a row, at the memory of the printed kernel. -/
theorem kernel_in_range (m : (ℓ : Loc Cert.Kernel.nD Cert.Kernel.τ Cert.Kernel.sig) → Buf (Elt Bits) ℓ) (h : Pre_Kernel m) (d : Dev Cert.Kernel.nD) :
    Ranges.InRange (m (d, Proc.devRef .tc Cert.Kernel.main_arg0)) (m (d, Proc.devRef .tc Cert.Kernel.main_arg1)) (m (d, Proc.devRef .tc Cert.Kernel.main_arg2))
      (m (d, Proc.devRef .tc Cert.Kernel.main_arg3)) (m (d, Proc.devRef .tc Cert.Kernel.main_arg4)) := Ranges.of_pre (h d)

/-- Under the precondition every number names a row, at the memory of the idealized kernel. -/
theorem ideal_in_range (m : (ℓ : Loc Cert.KernelIdeal.nD Cert.KernelIdeal.τ Cert.KernelIdeal.sig) → Buf (Elt Ideal) ℓ) (h : Pre_KernelIdeal m)
    (d : Dev Cert.KernelIdeal.nD) :
    Ranges.InRange (m (d, Proc.devRef .tc Cert.KernelIdeal.main_arg0)) (m (d, Proc.devRef .tc Cert.KernelIdeal.main_arg1))
      (m (d, Proc.devRef .tc Cert.KernelIdeal.main_arg2)) (m (d, Proc.devRef .tc Cert.KernelIdeal.main_arg3))
      (m (d, Proc.devRef .tc Cert.KernelIdeal.main_arg4)) := Ranges.of_pre (h d)

/-- The printed kernel's frame. -/
theorem kernel_frame : Cert.quiescent_Kernel := fun m g hp =>
  (θ_run _ _ _).mono (fun _ h => ⟨fun c => ⟨h.1.1 c Cert.Kernel.main_arg0 (by decide) (by decide), h.1.1 c Cert.Kernel.main_arg1 (by decide) (by decide), h.1.1 c Cert.Kernel.main_arg2 (by decide) (by decide), h.1.1 c Cert.Kernel.main_arg3 (by decide) (by decide), h.1.1 c Cert.Kernel.main_arg4 (by decide) (by decide), h.1.1 c Cert.Kernel.main_arg5 (by decide) (by decide), h.1.1 c Cert.Kernel.main_arg6 (by decide) (by decide), h.1.1 c Cert.Kernel.main_arg7 (by decide) (by decide), h.1.1 c Cert.Kernel.main_arg8 (by decide) (by decide), h.1.1 c Cert.Kernel.main_arg9 (by decide) (by decide), h.1.1 c Cert.Kernel.main_arg10 (by decide) (by decide), h.1.1 c Cert.Kernel.main_arg11 (by decide) (by decide), h.1.1 c Cert.Kernel.main_arg12 (by decide) (by decide), h.1.1 c Cert.Kernel.main_arg13 (by decide) (by decide), h.1.1 c Cert.Kernel.main_arg14 (by decide) (by decide), h.1.1 c Cert.Kernel.main_arg15 (by decide) (by decide), h.1.1 c Cert.Kernel.main_arg16 (by decide) (by decide), h.1.1 c Cert.Kernel.main_arg17 (by decide) (by decide), h.1.1 c Cert.Kernel.main_arg18 (by decide) (by decide)⟩, h.2⟩)
    (Cert.Kernel.Ends.ends (F := Bits) m g (Cert.Kernel.Ends.rows_named m (kernel_in_range m hp)))

/-- The idealized kernel's frame. -/
theorem ideal_frame : Cert.quiescent_KernelIdeal := fun m g hp =>
  (θ_run _ _ _).mono (fun _ h => ⟨fun c => ⟨h.1.1 c Cert.KernelIdeal.main_arg0 (by decide) (by decide), h.1.1 c Cert.KernelIdeal.main_arg1 (by decide) (by decide), h.1.1 c Cert.KernelIdeal.main_arg2 (by decide) (by decide), h.1.1 c Cert.KernelIdeal.main_arg3 (by decide) (by decide), h.1.1 c Cert.KernelIdeal.main_arg4 (by decide) (by decide), h.1.1 c Cert.KernelIdeal.main_arg5 (by decide) (by decide), h.1.1 c Cert.KernelIdeal.main_arg6 (by decide) (by decide), h.1.1 c Cert.KernelIdeal.main_arg7 (by decide) (by decide), h.1.1 c Cert.KernelIdeal.main_arg8 (by decide) (by decide), h.1.1 c Cert.KernelIdeal.main_arg9 (by decide) (by decide), h.1.1 c Cert.KernelIdeal.main_arg10 (by decide) (by decide), h.1.1 c Cert.KernelIdeal.main_arg11 (by decide) (by decide), h.1.1 c Cert.KernelIdeal.main_arg12 (by decide) (by decide), h.1.1 c Cert.KernelIdeal.main_arg13 (by decide) (by decide), h.1.1 c Cert.KernelIdeal.main_arg14 (by decide) (by decide), h.1.1 c Cert.KernelIdeal.main_arg15 (by decide) (by decide), h.1.1 c Cert.KernelIdeal.main_arg16 (by decide) (by decide), h.1.1 c Cert.KernelIdeal.main_arg17 (by decide) (by decide), h.1.1 c Cert.KernelIdeal.main_arg18 (by decide) (by decide)⟩, h.2⟩)
    (Cert.KernelIdeal.Ends.ends (F := Ideal) m g (Cert.KernelIdeal.Ends.rows_named m (ideal_in_range m hp)))

/-- The reference's frame: it declares no semaphore. -/
theorem reference_frame : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The reference's frame under the kernel's precondition. -/
theorem reference_frame_in_range : Cert.quiescent_ReferenceIdeal_pre_in_range := fun m g _ =>
  (θ_run _ _ _).mono (fun r h => ⟨fun c => (h c).2, sem_eq_zero_of_no_sems (by decide) r.2⟩) (Cert.ReferenceIdeal.Value.run (F := Ideal) m g)

/-- The named constant is one thousandth. -/
theorem milli_named : Cert.preserves_Kernel_KernelIdeal :=
  IdealRules.named_const.statement Cert.KernelIdeal.κ "milli" .f32 0x3A83126F#32 ((1 / 1000 : ℝ) : EReal) rfl

/-- The idealized kernel and the reference leave equal results. -/
theorem results_equal : Cert.algebraic_KernelIdeal_ReferenceIdeal := fun m g m' g' hp ha =>
  ⟨fun c => Cert.KernelIdeal.Run.VEnd m c (Proc.devRef .tc Cert.KernelIdeal.main_v19),
    (θ_run _ _ _).mono (fun _ h c => ⟨h.1.2 c, h.1.1 c Cert.KernelIdeal.main_arg0 (by decide) (by decide), h.1.1 c Cert.KernelIdeal.main_arg1 (by decide) (by decide), h.1.1 c Cert.KernelIdeal.main_arg2 (by decide) (by decide), h.1.1 c Cert.KernelIdeal.main_arg3 (by decide) (by decide), h.1.1 c Cert.KernelIdeal.main_arg4 (by decide) (by decide), h.1.1 c Cert.KernelIdeal.main_arg5 (by decide) (by decide), h.1.1 c Cert.KernelIdeal.main_arg6 (by decide) (by decide), h.1.1 c Cert.KernelIdeal.main_arg7 (by decide) (by decide), h.1.1 c Cert.KernelIdeal.main_arg8 (by decide) (by decide), h.1.1 c Cert.KernelIdeal.main_arg9 (by decide) (by decide), h.1.1 c Cert.KernelIdeal.main_arg10 (by decide) (by decide), h.1.1 c Cert.KernelIdeal.main_arg11 (by decide) (by decide), h.1.1 c Cert.KernelIdeal.main_arg12 (by decide) (by decide), h.1.1 c Cert.KernelIdeal.main_arg13 (by decide) (by decide), h.1.1 c Cert.KernelIdeal.main_arg14 (by decide) (by decide), h.1.1 c Cert.KernelIdeal.main_arg15 (by decide) (by decide), h.1.1 c Cert.KernelIdeal.main_arg16 (by decide) (by decide), h.1.1 c Cert.KernelIdeal.main_arg17 (by decide) (by decide), h.1.1 c Cert.KernelIdeal.main_arg18 (by decide) (by decide)⟩)
      (Cert.KernelIdeal.Ends.ends (F := Ideal) m g (Cert.KernelIdeal.Ends.rows_named m (ideal_in_range m hp))),
    (θ_run _ _ _).mono (fun _ h c => ⟨(h c).1.trans (Cert.Values.equal m m' c (ideal_in_range m hp c) (ha c)), (h c).2⟩)
      (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_in_range.Gen.facts, kernel_frame, ideal_frame,
    reference_frame, reference_frame_in_range, milli_named, results_equal⟩

end Cert.Proof

end
